-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S64x51x8400 : Shape := ⟨3, ![64, 51, 8400]⟩
abbrev S64x17x3 : Shape := ⟨3, ![64, 17, 3]⟩
abbrev S64x17x2 : Shape := ⟨3, ![64, 17, 2]⟩
abbrev S64x17 : Shape := ⟨2, ![64, 17]⟩
abbrev S64x17x8400 : Shape := ⟨3, ![64, 17, 8400]⟩
abbrev S_ : Shape := ⟨0, ![]⟩

class Facts : Prop where
  slicesBy_S64x51x8400_S64x17x8400_0s1_2s3_0s1 : S64x51x8400.SlicesBy (![0, 2, 0] : Fin 3 → Nat) ![1, 3, 1] S64x17x8400
  bcast_S_S64x17x8400 : S_.BroadcastsInDim S64x17x8400 (![] : Fin 0 → Fin S64x17x8400.rank)
  bcast_S_S64x17x2 : S_.BroadcastsInDim S64x17x2 (![] : Fin 0 → Fin S64x17x2.rank)

variable [Facts]

def fn {F : FTy → Type} [FloatOps F] (main_arg0 : FVec F S64x51x8400 .f32) (main_arg1 : FVec F S64x17x3 .f32) (main_arg2 : FVec F S64x17x2 .f32) (main_arg3 : IVec S64x17 32) : IVec S64x17x8400 1 × IVec S64x17x2 1 :=
  let main_v0 : FVec F S64x17x8400 .f32 := (Host.slice S64x17x8400 ![0, 2, 0] ![1, 3, 1] · slicesBy_S64x51x8400_S64x17x8400_0s1_2s3_0s1) main_arg0
  let main_cst : FVec F S_ .f32 := constant S_ .f32 0x00000000#32
  let main_v1 : FVec F S64x17x8400 .f32 := broadcastInDim S64x17x8400 ![] bcast_S_S64x17x8400 main_cst
  let main_v2 : IVec S64x17x8400 1 := cmpf .oge main_v0 main_v1
  let main_cst_0 : FVec F S_ .f32 := constant S_ .f32 0x3F7FFFFF#32
  let main_v3 : FVec F S64x17x8400 .f32 := broadcastInDim S64x17x8400 ![] bcast_S_S64x17x8400 main_cst_0
  let main_v4 : IVec S64x17x8400 1 := cmpf .ole main_v0 main_v3
  let main_v5 : IVec S64x17x8400 1 := andi main_v2 main_v4
  let main_cst_1 : FVec F S_ .f32 := constant S_ .f32 0x00000000#32
  let main_v6 : FVec F S64x17x2 .f32 := broadcastInDim S64x17x2 ![] bcast_S_S64x17x2 main_cst_1
  let main_v7 : IVec S64x17x2 1 := cmpf .oge main_arg2 main_v6
  let main_cst_2 : FVec F S_ .f32 := constant S_ .f32 0x44200000#32
  let main_v8 : FVec F S64x17x2 .f32 := broadcastInDim S64x17x2 ![] bcast_S_S64x17x2 main_cst_2
  let main_v9 : IVec S64x17x2 1 := cmpf .olt main_arg2 main_v8
  let main_v10 : IVec S64x17x2 1 := andi main_v7 main_v9
  (main_v5, main_v10)
-- ==== Kernel.lean ====
abbrev S64x51x8400 : Shape := ⟨3, ![64, 51, 8400]⟩
abbrev S64x17x3 : Shape := ⟨3, ![64, 17, 3]⟩
abbrev S64x17x2 : Shape := ⟨3, ![64, 17, 2]⟩
abbrev S64x17 : Shape := ⟨2, ![64, 17]⟩
abbrev S51x64x8400 : Shape := ⟨3, ![51, 64, 8400]⟩
abbrev S17x64x2 : Shape := ⟨3, ![17, 64, 2]⟩
abbrev S_ : Shape := ⟨0, ![]⟩
abbrev S17x64 : Shape := ⟨2, ![17, 64]⟩
abbrev S17x64x1 : Shape := ⟨3, ![17, 64, 1]⟩
abbrev S1x1 : Shape := ⟨2, ![1, 1]⟩
abbrev S1x64x8400 : Shape := ⟨3, ![1, 64, 8400]⟩
abbrev S1x64x6400 : Shape := ⟨3, ![1, 64, 6400]⟩
abbrev S1x64x2 : Shape := ⟨3, ![1, 64, 2]⟩
abbrev S1x64x1 : Shape := ⟨3, ![1, 64, 1]⟩
abbrev S3 : Shape := ⟨1, ![3]⟩
abbrev S1 : Shape := ⟨1, ![1]⟩
abbrev S1x1x64x8400 : Shape := ⟨4, ![1, 1, 64, 8400]⟩
abbrev S1x1x1x1 : Shape := ⟨4, ![1, 1, 1, 1]⟩
abbrev S1x64 : Shape := ⟨2, ![1, 64]⟩
abbrev S1x1x64x1 : Shape := ⟨4, ![1, 1, 64, 1]⟩

abbrev nBuf : Space → Nat
  | .hbm => 14
  | .vmem => 10
  | .smem => 2
  | _ => 0

abbrev bufTy : (tb : Table) → Fin (tcTables nBuf tb) → BufTy
  | .hbm, ⟨0, _⟩ => ⟨S64x51x8400, .f32⟩
  | .hbm, ⟨1, _⟩ => ⟨S64x17x3, .f32⟩
  | .hbm, ⟨2, _⟩ => ⟨S64x17x2, .f32⟩
  | .hbm, ⟨3, _⟩ => ⟨S64x17, .i32⟩
  | .hbm, ⟨4, _⟩ => ⟨S51x64x8400, .f32⟩
  | .hbm, ⟨5, _⟩ => ⟨S17x64x2, .f32⟩
  | .hbm, ⟨6, _⟩ => ⟨S_, .i32⟩
  | .hbm, ⟨7, _⟩ => ⟨S64x17, .i32⟩
  | .hbm, ⟨8, _⟩ => ⟨S64x17, .i1⟩
  | .hbm, ⟨9, _⟩ => ⟨S64x17, .i32⟩
  | .hbm, ⟨10, _⟩ => ⟨S17x64, .i32⟩
  | .hbm, ⟨11, _⟩ => ⟨S17x64x1, .i32⟩
  | .hbm, ⟨12, _⟩ => ⟨S1x1, .f32⟩
  | .hbm, ⟨13, _⟩ => ⟨S_, .f32⟩
  | .local _ .vmem, ⟨0, _⟩ => ⟨S1x64x8400, .f32⟩
  | .local _ .vmem, ⟨1, _⟩ => ⟨S1x64x8400, .f32⟩
  | .local _ .vmem, ⟨2, _⟩ => ⟨S1x64x6400, .f32⟩
  | .local _ .vmem, ⟨3, _⟩ => ⟨S1x64x6400, .f32⟩
  | .local _ .vmem, ⟨4, _⟩ => ⟨S1x64x6400, .f32⟩
  | .local _ .vmem, ⟨5, _⟩ => ⟨S1x64x6400, .f32⟩
  | .local _ .vmem, ⟨6, _⟩ => ⟨S1x64x2, .f32⟩
  | .local _ .vmem, ⟨7, _⟩ => ⟨S1x64x2, .f32⟩
  | .local _ .vmem, ⟨8, _⟩ => ⟨S1x64x1, .i32⟩
  | .local _ .vmem, ⟨9, _⟩ => ⟨S1x64x1, .i32⟩
  | .local _ .smem, ⟨0, _⟩ => ⟨S1x1, .f32⟩
  | .local _ .smem, ⟨1, _⟩ => ⟨S3, .f32⟩
  | _, _ => ⟨S64x51x8400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_c : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v86 : BitVec 1 := Scalar.cmpi .eq arg0 c16_i32
  let v87 : BitVec 32 := Scalar.extui v86
  let c0_i32_36 : BitVec 32 := 0#32
  let v88 : BitVec 1 := Scalar.cmpi .ne v87 c0_i32_36
  v88

def cc0_transform_0 (i : grid0.Coords) : Fin 3 → Nat :=
  let arg0 : BitVec 32 := BitVec.ofNat 32 (i 0).val
  let c3_i32 : BitVec 32 := 3#32
  let v0 : BitVec 32 := Scalar.muli c3_i32 arg0
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c3_i32 : BitVec 32 := 3#32
  let v0 : BitVec 32 := Scalar.muli c3_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x8400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x6400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S64x51x8400 : Shape := ⟨3, ![64, 51, 8400]⟩
abbrev S64x17x3 : Shape := ⟨3, ![64, 17, 3]⟩
abbrev S64x17x2 : Shape := ⟨3, ![64, 17, 2]⟩
abbrev S64x17 : Shape := ⟨2, ![64, 17]⟩
abbrev S64x17x8400 : Shape := ⟨3, ![64, 17, 8400]⟩
abbrev S64x17x1 : Shape := ⟨3, ![64, 17, 1]⟩
abbrev S_ : Shape := ⟨0, ![]⟩
abbrev S64 : Shape := ⟨1, ![64]⟩
abbrev S64x1 : Shape := ⟨2, ![64, 1]⟩
abbrev S17 : Shape := ⟨1, ![17]⟩
abbrev S1x17 : Shape := ⟨2, ![1, 17]⟩
abbrev S64x17x1x1 : Shape := ⟨4, ![64, 17, 1, 1]⟩
abbrev S1 : Shape := ⟨1, ![1]⟩
abbrev S1x1x1x1 : Shape := ⟨4, ![1, 1, 1, 1]⟩

abbrev nBuf : Space → Nat
  | .hbm => 166
  | .vmem => 0
  | .smem => 0
  | _ => 0

abbrev hbmTy0_0 (i : Nat) : BufTy := match i % 128 with
  | 0 => ⟨S64x51x8400, .f32⟩
  | 1 => ⟨S64x17x3, .f32⟩
  | 2 => ⟨S64x17x2, .f32⟩
  | 3 => ⟨S64x17, .i32⟩
  | 4 => ⟨S64x17x8400, .f32⟩
  | 5 => ⟨S64x17x8400, .f32⟩
  | 6 => ⟨S64x17x8400, .f32⟩
  | 7 => ⟨S64x17x1, .f32⟩
  | 8 => ⟨S64x17, .f32⟩
  | 9 => ⟨S_, .f32⟩
  | 10 => ⟨S64x17, .f32⟩
  | 11 => ⟨S64x17, .f32⟩
  | 12 => ⟨S64x17, .f32⟩
  | 13 => ⟨S64x17x1, .f32⟩
  | 14 => ⟨S64x17, .f32⟩
  | 15 => ⟨S_, .f32⟩
  | 16 => ⟨S64x17, .f32⟩
  | 17 => ⟨S64x17, .f32⟩
  | 18 => ⟨S64x17, .f32⟩
  | 19 => ⟨S_, .f32⟩
  | 20 => ⟨S64x17, .f32⟩
  | 21 => ⟨S64x17, .f32⟩
  | 22 => ⟨S64x17, .f32⟩
  | 23 => ⟨S64x17, .i32⟩
  | 24 => ⟨S_, .i32⟩
  | 25 => ⟨S64x17, .i32⟩
  | 26 => ⟨S64x17, .i1⟩
  | 27 => ⟨S64, .i32⟩
  | 28 => ⟨S64x1, .i32⟩
  | 29 => ⟨S17, .i32⟩
  | 30 => ⟨S1x17, .i32⟩
  | 31 => ⟨S_, .f32⟩
  | 32 => ⟨S64x17x8400, .f32⟩
  | 33 => ⟨S64x17, .f32⟩
  | 34 => ⟨S_, .i32⟩
  | 35 => ⟨S64x1, .i32⟩
  | 36 => ⟨S64x1, .i1⟩
  | 37 => ⟨S_, .i32⟩
  | 38 => ⟨S64x1, .i32⟩
  | 39 => ⟨S64x1, .i32⟩
  | 40 => ⟨S64x1, .i32⟩
  | 41 => ⟨S_, .i32⟩
  | 42 => ⟨S1x17, .i32⟩
  | 43 => ⟨S1x17, .i1⟩
  | 44 => ⟨S_, .i32⟩
  | 45 => ⟨S1x17, .i32⟩
  | 46 => ⟨S1x17, .i32⟩
  | 47 => ⟨S1x17, .i32⟩
  | 48 => ⟨S_, .i32⟩
  | 49 => ⟨S64x17, .i32⟩
  | 50 => ⟨S64x17, .i1⟩
  | 51 => ⟨S_, .i32⟩
  | 52 => ⟨S64x17, .i32⟩
  | 53 => ⟨S64x17, .i32⟩
  | 54 => ⟨S64x17, .i32⟩
  | 55 => ⟨S64x17, .i32⟩
  | 56 => ⟨S64x17, .i32⟩
  | 57 => ⟨S64x17x1, .i32⟩
  | 58 => ⟨S64x17x1, .i32⟩
  | 59 => ⟨S64x17x1, .i32⟩
  | 60 => ⟨S64x17x3, .i32⟩
  | 61 => ⟨S64x17x8400, .f32⟩
  | 62 => ⟨S64x17x1, .i32⟩
  | 63 => ⟨S_, .i32⟩
  | 64 => ⟨S64x17x1, .i32⟩
  | 65 => ⟨S64x17x1, .i1⟩
  | 66 => ⟨S_, .i32⟩
  | 67 => ⟨S64x17x1, .i32⟩
  | 68 => ⟨S64x17x1, .i32⟩
  | 69 => ⟨S64x17x1, .i32⟩
  | 70 => ⟨S64x17x1x1, .i32⟩
  | 71 => ⟨S1, .i32⟩
  | 72 => ⟨S_, .i32⟩
  | 73 => ⟨S64x17x1x1, .i32⟩
  | 74 => ⟨S64x17x1x1, .i1⟩
  | 75 => ⟨S1x1x1x1, .i32⟩
  | 76 => ⟨S64x17x1x1, .i32⟩
  | 77 => ⟨S64x17x1x1, .i1⟩
  | 78 => ⟨S64x17x1x1, .i1⟩
  | 79 => ⟨S_, .i1⟩
  | 80 => ⟨S64x17x1, .i1⟩
  | 81 => ⟨S64x17x1, .f32⟩
  | 82 => ⟨S_, .f32⟩
  | 83 => ⟨S64x17x1, .f32⟩
  | 84 => ⟨S64x17x1, .f32⟩
  | 85 => ⟨S64x17, .f32⟩
  | 86 => ⟨S64x17x1, .i32⟩
  | 87 => ⟨S_, .i32⟩
  | 88 => ⟨S64x17x1, .i32⟩
  | 89 => ⟨S64x17x1, .i1⟩
  | 90 => ⟨S_, .i32⟩
  | 91 => ⟨S64x17x1, .i32⟩
  | 92 => ⟨S64x17x1, .i32⟩
  | 93 => ⟨S64x17x1, .i32⟩
  | 94 => ⟨S64x17x1x1, .i32⟩
  | 95 => ⟨S1, .i32⟩
  | 96 => ⟨S_, .i32⟩
  | 97 => ⟨S64x17x1x1, .i32⟩
  | 98 => ⟨S64x17x1x1, .i1⟩
  | 99 => ⟨S1x1x1x1, .i32⟩
  | 100 => ⟨S64x17x1x1, .i32⟩
  | 101 => ⟨S64x17x1x1, .i1⟩
  | 102 => ⟨S64x17x1x1, .i1⟩
  | 103 => ⟨S_, .i1⟩
  | 104 => ⟨S64x17x1, .i1⟩
  | 105 => ⟨S64x17x1, .f32⟩
  | 106 => ⟨S_, .f32⟩
  | 107 => ⟨S64x17x1, .f32⟩
  | 108 => ⟨S64x17x1, .f32⟩
  | 109 => ⟨S64x17, .f32⟩
  | 110 => ⟨S64x17x1, .f32⟩
  | 111 => ⟨S64x17, .f32⟩
  | 112 => ⟨S64x17, .f32⟩
  | 113 => ⟨S64x17, .f32⟩
  | 114 => ⟨S_, .f32⟩
  | 115 => ⟨S_, .f32⟩
  | 116 => ⟨S64x17, .f32⟩
  | 117 => ⟨S64x17, .f32⟩
  | 118 => ⟨S_, .f32⟩
  | 119 => ⟨S_, .f32⟩
  | 120 => ⟨S64x17x1, .f32⟩
  | 121 => ⟨S64x17, .f32⟩
  | 122 => ⟨S64x17, .f32⟩
  | 123 => ⟨S64x17, .f32⟩
  | 124 => ⟨S_, .f32⟩
  | 125 => ⟨S_, .f32⟩
  | 126 => ⟨S64x17, .f32⟩
  | 127 => ⟨S64x17, .f32⟩
  | _ => ⟨S64x51x8400, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S64x17x8400, .f32⟩
  | 6 => ⟨S64x17x8400, .f32⟩
  | 7 => ⟨S_, .f32⟩
  | 8 => ⟨S64x17x8400, .f32⟩
  | 9 => ⟨S64x17x8400, .f32⟩
  | 10 => ⟨S64x17x8400, .f32⟩
  | 11 => ⟨S_, .f32⟩
  | 12 => ⟨S64x17x8400, .f32⟩
  | 13 => ⟨S64x17x8400, .f32⟩
  | 14 => ⟨S_, .f32⟩
  | 15 => ⟨S64x17x8400, .f32⟩
  | 16 => ⟨S64x17x8400, .f32⟩
  | 17 => ⟨S64x17x8400, .f32⟩
  | 18 => ⟨S_, .f32⟩
  | 19 => ⟨S64x17x8400, .f32⟩
  | 20 => ⟨S64x17x8400, .f32⟩
  | 21 => ⟨S64x17x8400, .f32⟩
  | 22 => ⟨S_, .f32⟩
  | 23 => ⟨S64x17x8400, .f32⟩
  | 24 => ⟨S64x17x8400, .f32⟩
  | 25 => ⟨S64x17x8400, .f32⟩
  | 26 => ⟨S64x17x8400, .f32⟩
  | 27 => ⟨S64x17x8400, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | _ => ⟨S64x51x8400, .f32⟩

abbrev hbmTy (i : Nat) : BufTy := match i / 128 with
  | 0 => hbmTy0_0 i
  | 1 => hbmTy0_1 i
  | _ => ⟨S64x51x8400, .f32⟩

abbrev bufTy : (tb : Table) → Fin (tcTables nBuf tb) → BufTy
  | .hbm, ⟨i, _⟩ => hbmTy i
  | _, _ => ⟨S64x51x8400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_5 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_c_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call0_c : Ref sig .tc := ⟨.hbm, 63, rfl⟩
abbrev main_call0_v0 : Ref sig .tc := ⟨.hbm, 64, rfl⟩
abbrev main_call0_v1 : Ref sig .tc := ⟨.hbm, 65, rfl⟩
abbrev main_call0_c_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_c_1 : Ref sig .tc := ⟨.hbm, 71, rfl⟩
abbrev main_call0_c_2 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_c_3 : Ref sig .tc := ⟨.hbm, 79, rfl⟩
abbrev main_call0_v12 : Ref sig .tc := ⟨.hbm, 80, rfl⟩
abbrev main_call0_v13 : Ref sig .tc := ⟨.hbm, 81, rfl⟩
abbrev main_call0_cst : Ref sig .tc := ⟨.hbm, 82, rfl⟩
abbrev main_call0_v14 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call1_c : Ref sig .tc := ⟨.hbm, 87, rfl⟩
abbrev main_call1_v0 : Ref sig .tc := ⟨.hbm, 88, rfl⟩
abbrev main_call1_v1 : Ref sig .tc := ⟨.hbm, 89, rfl⟩
abbrev main_call1_c_0 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_c_1 : Ref sig .tc := ⟨.hbm, 95, rfl⟩
abbrev main_call1_c_2 : Ref sig .tc := ⟨.hbm, 96, rfl⟩
abbrev main_call1_v6 : Ref sig .tc := ⟨.hbm, 97, rfl⟩
abbrev main_call1_v7 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_c_3 : Ref sig .tc := ⟨.hbm, 103, rfl⟩
abbrev main_call1_v12 : Ref sig .tc := ⟨.hbm, 104, rfl⟩
abbrev main_call1_v13 : Ref sig .tc := ⟨.hbm, 105, rfl⟩
abbrev main_call1_cst : Ref sig .tc := ⟨.hbm, 106, rfl⟩
abbrev main_call1_v14 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_cst_9 : Ref sig .tc := ⟨.hbm, 114, rfl⟩
abbrev main_call2_v0 : Ref sig .tc := ⟨.hbm, 115, rfl⟩
abbrev main_call2_v1 : Ref sig .tc := ⟨.hbm, 116, rfl⟩
abbrev main_v57 : Ref sig .tc := ⟨.hbm, 117, rfl⟩
abbrev main_cst_10 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_cst_11 : Ref sig .tc := ⟨.hbm, 124, rfl⟩
abbrev main_call3_v0 : Ref sig .tc := ⟨.hbm, 125, rfl⟩
abbrev main_call3_v1 : Ref sig .tc := ⟨.hbm, 126, rfl⟩
abbrev main_v63 : Ref sig .tc := ⟨.hbm, 127, rfl⟩
abbrev main_cst_12 : Ref sig .tc := ⟨.hbm, 128, rfl⟩
abbrev main_v64 : Ref sig .tc := ⟨.hbm, 129, rfl⟩
abbrev main_cst_13 : Ref sig .tc := ⟨.hbm, 130, rfl⟩
abbrev main_cst_14 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_v65 : Ref sig .tc := ⟨.hbm, 137, rfl⟩
abbrev main_v66 : Ref sig .tc := ⟨.hbm, 138, rfl⟩
abbrev main_cst_15 : Ref sig .tc := ⟨.hbm, 139, rfl⟩
abbrev main_v67 : Ref sig .tc := ⟨.hbm, 140, rfl⟩
abbrev main_v68 : Ref sig .tc := ⟨.hbm, 141, rfl⟩
abbrev main_cst_16 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_cst_17 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_cst_18 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_cst_19 : Ref sig .tc := ⟨.hbm, 156, rfl⟩
abbrev main_v80 : Ref sig .tc := ⟨.hbm, 157, rfl⟩
abbrev main_cst_20 : Ref sig .tc := ⟨.hbm, 158, rfl⟩
abbrev main_v81 : Ref sig .tc := ⟨.hbm, 159, rfl⟩
abbrev main_cst_21 : Ref sig .tc := ⟨.hbm, 160, rfl⟩
abbrev main_v82 : Ref sig .tc := ⟨.hbm, 161, rfl⟩
abbrev main_v83 : Ref sig .tc := ⟨.hbm, 162, rfl⟩
abbrev main_cst_22 : Ref sig .tc := ⟨.hbm, 163, rfl⟩
abbrev main_v84 : Ref sig .tc := ⟨.hbm, 164, rfl⟩
abbrev main_v85 : Ref sig .tc := ⟨.hbm, 165, rfl⟩

abbrev nD : Nat := 1
abbrev τ : Topo := Topo.v7x

variable {F : FTy → Type} [FloatOps F]
-- ==== Proof.Terms.lean ====
/-
  The words and the numbers of the pose loss, in plain mathematics: the grid cell in which a keypoint lies, and what the
  logarithms of a confidence are when the confidence is of the range that the inputs are drawn from.
-/
module

public import Idealize.ShloMosaic.Lib.Pointwise
public import Idealize.ShloMosaic.Lib.IdealHost

@[expose] public section

noncomputable section

namespace Cert.Pose

open Idealize.ShloMosaic

/-! ## The constants of the two programs -/

/-- Minus one hundred, the floor of a logarithm, as both programs spell it. -/
abbrev low : EReal := Ideal.ofBits .f32 0xC2C80000#32
/-- Eight, the side of a cell in pixels. -/
abbrev side : EReal := Ideal.ofBits .f32 0x41000000#32
/-- One eighth, by which the kernel multiplies in place of dividing by eight. -/
abbrev eighth : EReal := Ideal.ofBits .f32 0x3E000000#32
/-- Eighty, the number of cells in a row of the grid. -/
abbrev width : EReal := Ideal.ofBits .f32 0x42A00000#32
/-- The number of confidences, 64 · 17 · 8400. -/
abbrev count : EReal := Ideal.ofBits .f32 0x4B0B7400#32
/-- The number of images, 64. -/
abbrev images : EReal := Ideal.ofBits .f32 0x42800000#32

/-- The floor of a logarithm is minus one hundred. -/
theorem low_eq : low = ((-100 : ℝ) : EReal) := by
  simp [Ideal.ofBits, Ideal.ieee, -EReal.coe_mul, -EReal.coe_neg, -EReal.coe_sub]; norm_num
/-- The side of a cell is eight. -/
theorem side_eq : side = ((8 : ℝ) : EReal) := by
  simp [Ideal.ofBits, Ideal.ieee, -EReal.coe_mul, -EReal.coe_neg, -EReal.coe_sub]; norm_num
/-- The factor is one eighth. -/
theorem eighth_eq : eighth = ((1 / 8 : ℝ) : EReal) := by
  simp [Ideal.ofBits, Ideal.ieee, -EReal.coe_mul, -EReal.coe_neg, -EReal.coe_sub]; norm_num
/-- A row of the grid has eighty cells. -/
theorem width_eq : width = ((80 : ℝ) : EReal) := by
  simp [Ideal.ofBits, Ideal.ieee, -EReal.coe_mul, -EReal.coe_neg, -EReal.coe_sub]; norm_num
/-- The word of one is one. -/
theorem one_word : Ideal.ofBits .f32 0x3F800000#32 = 1 := by
  simp [Ideal.ofBits, Ideal.ieee, -EReal.coe_mul, -EReal.coe_neg, -EReal.coe_sub]; norm_num
/-- There are sixty-four images. -/
theorem images_eq : images = ((64 : ℝ) : EReal) := by
  simp [Ideal.ofBits, Ideal.ieee, -EReal.coe_mul, -EReal.coe_neg, -EReal.coe_sub]; norm_num
/-- The largest confidence drawn is `1 - 2⁻²⁴`. -/
theorem most_eq : Ideal.ofBits .f32 0x3F7FFFFF#32 = ((1 - 1 / 2 ^ 24 : ℝ) : EReal) := by
  simp [Ideal.ofBits, Ideal.ieee, -EReal.coe_mul, -EReal.coe_neg, -EReal.coe_sub]; norm_num
/-- The image is 640 pixels wide. -/
theorem pixels_eq : Ideal.ofBits .f32 0x44200000#32 = ((640 : ℝ) : EReal) := by
  simp [Ideal.ofBits, Ideal.ieee, -EReal.coe_mul, -EReal.coe_neg, -EReal.coe_sub]; norm_num

/-! ## The cell of a keypoint -/

/-- The number of the cell that holds the keypoint `(x, y)`, as the word both programs compute. -/
def cellWord (x y : EReal) : BitVec 32 :=
  Ideal.fptosi 32 (Ideal.liftRound Int.floor (y * eighth) * width + Ideal.liftRound Int.floor (x * eighth))

/-- Dividing by eight is multiplying by one eighth. -/
theorem div_side (x : EReal) : Ideal.div x side = x * eighth := by
  rw [side_eq, eighth_eq, Ideal.div, if_neg (by rw [← EReal.coe_zero, EReal.coe_eq_coe_iff]; norm_num), ← EReal.coe_inv]
  norm_num

/-- A coordinate inside the image lies in one of the eighty columns (or rows) of the grid. -/
theorem floor_lt (x : EReal) (h0 : 0 ≤ x) (h1 : x < ((640 : ℝ) : EReal)) :
    ∃ n : ℕ, n < 80 ∧ Ideal.liftRound Int.floor (x * eighth) = ((n : ℝ) : EReal) := by
  induction x with
  | bot => simp at h0
  | top => simp at h1
  | coe r =>
    have h0' : 0 ≤ r := by exact_mod_cast h0
    have h1' : r < 640 := by exact_mod_cast h1
    have hf : 0 ≤ ⌊r * (1 / 8)⌋ := Int.floor_nonneg.2 (by positivity)
    refine ⟨⌊r * (1 / 8)⌋.toNat, ?_, ?_⟩
    · have : ⌊r * (1 / 8)⌋ < 80 := Int.floor_lt.2 (by push_cast; linarith)
      omega
    · rw [eighth_eq, ← EReal.coe_mul]
      show (((⌊r * (1 / 8)⌋ : ℤ) : ℝ) : EReal) = _
      congr 1
      have : ((⌊r * (1 / 8)⌋.toNat : ℤ) : ℝ) = ((⌊r * (1 / 8)⌋ : ℤ) : ℝ) := by rw [Int.toNat_of_nonneg hf]
      exact_mod_cast this.symm

/-- A keypoint inside the image lies in one of the 6400 cells of the grid, and the word is that cell's number. -/
theorem exists_cell (x y : EReal) (hx0 : 0 ≤ x) (hx1 : x < ((640 : ℝ) : EReal)) (hy0 : 0 ≤ y) (hy1 : y < ((640 : ℝ) : EReal)) :
    ∃ n : Fin 6400, cellWord x y = BitVec.ofNat 32 n.val := by
  obtain ⟨a, ha, ea⟩ := floor_lt y hy0 hy1
  obtain ⟨b, hb, eb⟩ := floor_lt x hx0 hx1
  refine ⟨⟨a * 80 + b, by omega⟩, ?_⟩
  have e : ((a : ℝ) : EReal) * ((80 : ℝ) : EReal) + ((b : ℝ) : EReal) = (((a * 80 + b : ℕ) : ℝ) : EReal) := by
    rw [← EReal.coe_mul, ← EReal.coe_add]; push_cast; rfl
  unfold cellWord
  rw [ea, eb, width_eq, e, Ideal.fptosi, Ideal.toIntClamped_coe, if_pos (by positivity), Int.floor_natCast]
  have : max (-((2 ^ (32 - 1) : ℕ) : ℤ)) (min (((2 ^ (32 - 1) : ℕ) : ℤ) - 1) ((a * 80 + b : ℕ) : ℤ)) = ((a * 80 + b : ℕ) : ℤ) := by
    rw [min_eq_right (by norm_num; omega), max_eq_right (by norm_num; omega)]
  rw [this]
  rfl

/-! ## The logarithms of a confidence -/

/-- The confidences that the inputs are drawn from: `0 ≤ p ≤ 1 − 2⁻²⁴`. -/
structure Drawn (p : EReal) : Prop where
  ge : 0 ≤ p
  le : p ≤ ((1 - 1 / 2 ^ 24 : ℝ) : EReal)

/-- A confidence cut to `[0, 1]`. -/
abbrev clip (p : EReal) : EReal := min 1 (max 0 p)

/-- The logarithm of a confidence, no less than `-100`. -/
abbrev logp (p : EReal) : EReal := max (Ideal.log (clip p)) low
/-- The logarithm of one minus a confidence, no less than `-100`. -/
abbrev logq (p : EReal) : EReal := max (Ideal.log (1 - clip p)) low

/-- A drawn confidence is its own clipping to the unit interval. -/
theorem Drawn.clip_eq {p : EReal} (h : Drawn p) : clip p = p := by
  unfold clip
  have : p ≤ 1 := h.le.trans (by rw [← EReal.coe_one, EReal.coe_le_coe_iff]; norm_num)
  rw [max_eq_right h.ge, min_eq_right this]

/-- A drawn confidence is a real number below one. -/
theorem Drawn.exists_real {p : EReal} (h : Drawn p) : ∃ r : ℝ, p = r ∧ 0 ≤ r ∧ r ≤ 1 - 1 / 2 ^ 24 := by
  induction p with
  | bot => exact absurd h.ge (by simp)
  | top => exact absurd h.le (not_le.2 (EReal.coe_lt_top _))
  | coe r => exact ⟨r, rfl, by exact_mod_cast h.ge, by have := h.le; exact EReal.coe_le_coe_iff.1 this⟩

/-- The logarithm of one minus a drawn confidence is a real number, above `-100`: the floor changes nothing. -/
theorem Drawn.logq_real {p : EReal} (h : Drawn p) : ∃ l : ℝ, Ideal.log (1 - p) = l ∧ logq p = l := by
  obtain ⟨r, rfl, h0, h1⟩ := h.exists_real
  have hpos : (0 : ℝ) < 1 - r := by linarith [show (0 : ℝ) < 1 / 2 ^ 24 by positivity]
  have e : Ideal.log (1 - (r : EReal)) = ((Real.log (1 - r) : ℝ) : EReal) := by
    rw [← EReal.coe_one, ← EReal.coe_sub, Ideal.log_coe, if_neg (not_le.2 hpos)]
  refine ⟨Real.log (1 - r), e, ?_⟩
  unfold logq
  rw [h.clip_eq, e, low_eq, max_eq_left]
  rw [EReal.coe_le_coe_iff]
  have h2 : Real.log (1 / 2 ^ 24) ≤ Real.log (1 - r) := Real.log_le_log (by positivity) (by linarith)
  have h3 : Real.log (1 / 2 ^ 24) = -(24 * Real.log 2) := by
    rw [one_div, Real.log_inv, Real.log_pow]; norm_num
  have h4 : Real.log 2 < 1 := by have := Real.log_lt_sub_one_of_pos (x := 2) (by norm_num) (by norm_num); linarith
  linarith

/-- The floored logarithm of a drawn confidence is a real number. -/
theorem Drawn.logp_real {p : EReal} (h : Drawn p) : ∃ l : ℝ, logp p = l := by
  obtain ⟨r, rfl, h0, h1⟩ := h.exists_real
  unfold logp
  rw [h.clip_eq, low_eq, Ideal.log_coe]
  split
  · exact ⟨-100, by simp⟩
  · exact ⟨max (Real.log r) (-100), (EReal.coe_strictMono.monotone.map_max).symm⟩

end Cert.Pose

end
-- ==== Proof.Block.lean ====
/-
  What one block of the kernel computes, over the extended reals: for one joint the sum of `log (1 − confidence)` over every
  image and cell, and, with the cell of each keypoint known, the correction at the keypoints' cells and the squared distances.
-/
module

public import proofs.«01_k».proof.Proof.Terms
public import proofs.«01_k».proof.Proof.Gen.KernelIdeal.Skeleton

@[expose] public section

set_option maxRecDepth 16384

noncomputable section

namespace Cert.Pose

open Idealize.ShloMosaic Cert.KernelIdeal Cert.KernelIdeal.Gen

/-- A sum over every axis of a box written under one more axis of size one is the sum over the box. -/
theorem sum_under_unit {A B : ℕ} {t : Shape} (ht : ∀ b, t.size b = 1) {axes : List (Fin 4)}
    (h : (⟨4, ![1, 1, A, B]⟩ : Shape).Reduces axes t) (hc : (⟨3, ![1, A, B]⟩ : Shape).ShapeCasts ⟨4, ![1, 1, A, B]⟩)
    (y : (⟨3, ![1, A, B]⟩ : Shape).Idx → EReal) (j : t.Idx) :
    Ideal.reduceAdd h (shapeCast ⟨4, ![1, 1, A, B]⟩ y hc) j = ∑ a : Fin A, ∑ b : Fin B, y (ix3 0 a b) := by
  rw [Ideal.reduceAdd_total h ht]
  show ∑ i, y (Shape.reshapeEquiv hc i) = _
  rw [Equiv.sum_comp (Shape.reshapeEquiv hc) y, sum_idx3, Fin.sum_univ_one]

/-- The sum of `log (1 − confidence)` over the block. -/
theorem den_eq (v3 : Vec Ideal S1x64x8400 .f32) :
    k0_pay11 (F := Ideal) v3 = ∑ b : Fin 64, ∑ g : Fin 8400, Ideal.log (1 - v3 (ix3 0 b g)) := by
  pointwise [k0_pay11, k0_pay4]
  refine (sum_under_unit (fun b => by fin_cases b; rfl) _ _ _ _).trans ?_
  refine Finset.sum_congr rfl fun b _ => Finset.sum_congr rfl fun g _ => ?_
  pointwise

/-- The mask is one at a keypoint's cell alone. -/
theorem mask_eq (v9 : Vec Ideal S1x64x2 .f32) (b : Fin 64) (n g : Fin 6400)
    (hn : cellWord (v9 (ix3 0 b 0)) (v9 (ix3 0 b 1)) = BitVec.ofNat 32 n.val) :
    k0_pay12 (F := Ideal) v9 (ix3 0 b g) = if g = n then 1#1 else 0#1 := by
  pointwise [k0_pay12, k0_pay7, k0_pay8, k0_pay9]
  change IntOp.cmpi CmpIPredicate.eq (BitVec.ofNat 32 g.val) (cellWord (v9 (ix3 0 b 0)) (v9 (ix3 0 b 1))) = _
  rw [hn]
  have hg := g.isLt
  have hn' := n.isLt
  by_cases h : g = n
  · subst h; simp [IntOp.cmpi]
  · rw [if_neg h]
    have : BitVec.ofNat 32 g.val ≠ BitVec.ofNat 32 n.val := fun e => h (Fin.ext (by
      have := congrArg BitVec.toNat e
      simp only [BitVec.toNat_ofNat] at this
      omega))
    show BitVec.ofBool (BitVec.ofNat 32 g.val == BitVec.ofNat 32 n.val) = 0#1
    rw [beq_false_of_ne this]; rfl

/-- The sum along the cells of what the mask keeps is the value at the keypoint's cell. -/
theorem pick_eq (v35 : IVec S1x64x6400 1) (y : FVec Ideal S1x64x6400 .f32) (n : Fin 64 → Fin 6400)
    (hm : ∀ b g, v35 (ix3 0 b g) = if g = n b then 1#1 else 0#1) (b : Fin 64) :
    shapeCast S1x64x1 (Ideal.reduceAdd reduces_S1x64x6400_S1x64 (select v35 y (broadcast S1x64x6400 0)))
      shapeCasts_S1x64_S1x64x1 (ix3 0 b 0) = y (ix3 0 b (n b)) := by
  pointwise
  rw [Finset.sum_eq_single (n b)]
  · rw [hm, if_pos rfl]; rfl
  · intro g _ hg
    rw [hm, if_neg hg]; rfl
  · intro h; exact absurd (Finset.mem_univ _) h

/-- The squared distances of the block, weighted by the visibility. -/
theorem dist_eq (v6 v8 : FVec Ideal S1x64x6400 .f32) (v11 v12 v15 : FVec Ideal S1x64x1 .f32) (v35 : IVec S1x64x6400 1)
    (n : Fin 64 → Fin 6400) (hm : ∀ b g, v35 (ix3 0 b g) = if g = n b then 1#1 else 0#1) :
    k0_pay13 (F := Ideal) v6 v8 v11 v12 v15 v35
      = ∑ b : Fin 64, v15 (ix3 0 b 0) *
          ((v6 (ix3 0 b (n b)) - v11 (ix3 0 b 0)) * (v6 (ix3 0 b (n b)) - v11 (ix3 0 b 0))
            + (v8 (ix3 0 b (n b)) - v12 (ix3 0 b 0)) * (v8 (ix3 0 b (n b)) - v12 (ix3 0 b 0))) := by
  pointwise [k0_pay13]
  refine (sum_under_unit (fun b => by fin_cases b; rfl) _ _ _ _).trans ?_
  refine Finset.sum_congr rfl fun b _ => ?_
  rw [Fin.sum_univ_one]
  have h6 := pick_eq v35 v6 n hm b
  have h8 := pick_eq v35 v8 n hm b
  generalize shapeCast S1x64x1 (Ideal.reduceAdd reduces_S1x64x6400_S1x64 (select v35 v6 (broadcast S1x64x6400 0)))
    shapeCasts_S1x64_S1x64x1 = y6 at h6 ⊢
  generalize shapeCast S1x64x1 (Ideal.reduceAdd reduces_S1x64x6400_S1x64 (select v35 v8 (broadcast S1x64x6400 0)))
    shapeCasts_S1x64_S1x64x1 = y8 at h8 ⊢
  rw [← h6, ← h8]
  pointwise

/-- The correction of the block at the keypoints' cells, weighted by the visibility. -/
theorem corr_eq (v4 : FVec Ideal S1x64x8400 .f32) (v15 : FVec Ideal S1x64x1 .f32) (v35 : IVec S1x64x6400 1)
    (n : Fin 64 → Fin 6400) (hm : ∀ b g, v35 (ix3 0 b g) = if g = n b then 1#1 else 0#1) :
    k0_pay14 (F := Ideal) v4 v15 v35
      = ∑ b : Fin 64, v15 (ix3 0 b 0) *
          (logq (v4 (ix3 0 b ((n b).castLE (by decide)))) - logp (v4 (ix3 0 b ((n b).castLE (by decide))))) := by
  pointwise [k0_pay14]
  refine (sum_under_unit (fun b => by fin_cases b; rfl) _ _ _ _).trans ?_
  refine Finset.sum_congr rfl fun b _ => ?_
  rw [Fin.sum_univ_one]
  have h4 := pick_eq v35 (extractStridedSlice S1x64x6400 ![0, 0, 0] v4 slices_S1x64x8400_o0_0_0_S1x64x6400) n hm b
  generalize shapeCast S1x64x1 (Ideal.reduceAdd reduces_S1x64x6400_S1x64 (select v35
    (extractStridedSlice S1x64x6400 ![0, 0, 0] v4 slices_S1x64x8400_o0_0_0_S1x64x6400) (broadcast S1x64x6400 0)))
    shapeCasts_S1x64_S1x64x1 = y4 at h4 ⊢
  have e : extractStridedSlice S1x64x6400 ![0, 0, 0] v4 slices_S1x64x8400_o0_0_0_S1x64x6400 (ix3 0 b (n b))
      = v4 (ix3 0 b ((n b).castLE (by decide))) := by pointwise; rfl
  rw [← e, ← h4]
  pointwise

end Cert.Pose

end
-- ==== Proof.Acc.lean ====
/-
  The kernel's three running sums: what a point of the grid adds to each, and what they hold after any number of points.
-/
module

public import proofs.«01_k».proof.Proof.Block
public import proofs.«01_k».proof.Proof.Gen.KernelIdeal.Frame
public import Idealize.ShloMosaic.Lib.Pipeline.ValueKit
public import Idealize.ShloMosaic.Lib.Tactic

@[expose] public section

set_option maxRecDepth 16384

noncomputable section

namespace Cert.Pose

open Idealize.ShloMosaic Idealize.ShloMosaic.TcCoe
open Cert.KernelIdeal Cert.KernelIdeal.Gen

/-- The origin of a rank-three block is the zero offset. -/
theorem zero3 : (![0, 0, 0] : Fin 3 → Nat) = fun _ => 0 := funext fun a => by fin_cases a <;> rfl
/-- The origin of a rank-two block is the zero offset. -/
theorem zero2 : (![0, 0] : Fin 2 → Nat) = fun _ => 0 := funext fun a => by fin_cases a <;> rfl

/-- The three words the kernel carries from one point to the next: the sum of the logarithms, the sum of the corrections
    and the sum of the distances. -/
def trio (a b d : EReal) : Vec Ideal S3 .f32 := fun j => ![a, b, d] (j 0)

/-- Three stores, one into each word, leave the three words whatever was stored before them. -/
theorem canon_trio (a b d : EReal) (h0) (h1) (h2) (L : List (View.Piece (Elt Ideal) S3 .f32)) :
    View.canon (⟨Rect.unit (s := S3) ![2] ![1] h2, fun _ => d⟩ :: ⟨Rect.unit (s := S3) ![1] ![1] h1, fun _ => b⟩ ::
      ⟨Rect.unit (s := S3) ![0] ![1] h0, fun _ => a⟩ :: L) = trio a b d := by
  funext j
  by_cases e2 : (j 0).val = 2
  · obtain rfl : j = (Rect.unit (s := S3) ![2] ![1] h2).emb (fun x => ⟨0, by fin_cases x; exact Nat.one_pos⟩) := by
      funext x; fin_cases x; exact Fin.ext e2
    rw [View.canon_cons_emb]; rfl
  rw [View.canon_cons_of_not_mem _ _ (by
    rw [Rect.mem_set_unit]; intro h; have := h 0
    simp only [Matrix.cons_val_zero] at this; omega)]
  by_cases e1 : (j 0).val = 1
  · obtain rfl : j = (Rect.unit (s := S3) ![1] ![1] h1).emb (fun x => ⟨0, by fin_cases x; exact Nat.one_pos⟩) := by
      funext x; fin_cases x; exact Fin.ext e1
    rw [View.canon_cons_emb]; rfl
  rw [View.canon_cons_of_not_mem _ _ (by
    rw [Rect.mem_set_unit]; intro h; have := h 0
    simp only [Matrix.cons_val_zero] at this; omega)]
  have e0 : (j 0).val = 0 := by have : (j 0).val < 3 := (j 0).isLt; omega
  obtain rfl : j = (Rect.unit (s := S3) ![0] ![1] h0).emb (fun x => ⟨0, by fin_cases x; exact Nat.one_pos⟩) := by
    funext x; fin_cases x; exact Fin.ext e0
  rw [View.canon_cons_emb]; rfl

/-- The sum of the logarithms one point adds. -/
abbrev denOf (x0 : Vec Ideal S1x64x8400 .f32) : EReal := k0_pay11 x0
/-- The sum of the corrections one point adds. -/
abbrev corrOf (x0 : Vec Ideal S1x64x8400 .f32) (x3 : Vec Ideal S1x64x2 .f32) (x4 : Vec Ideal S1x64x1 .i32) : EReal :=
  k0_pay14 (k0_pay4 x0) (k0_pay10 x4) (k0_pay12 x3)
/-- The sum of the distances one point adds. -/
abbrev distOf (x1 x2 : Vec Ideal S1x64x6400 .f32) (x3 : Vec Ideal S1x64x2 .f32) (x4 : Vec Ideal S1x64x1 .i32) : EReal :=
  k0_pay13 (k0_pay5 x1) (k0_pay6 x2) (k0_pay8 x3) (k0_pay9 x3) (k0_pay10 x4) (k0_pay12 x3)

/-- The first word's update adds the point's sum of logarithms. -/
theorem add_den (a b : EReal) : k0_pay15 (F := Ideal) a b = b + a := rfl
/-- The second word's update adds the point's sum of corrections. -/
theorem add_corr (a b : EReal) : k0_pay1 (F := Ideal) a b = b + a := rfl
/-- The third word's update adds the point's sum of distances. -/
theorem add_dist (a b : EReal) : k0_pay2 (F := Ideal) a b = b + a := rfl
/-- The zero word, which the first point stores, is the number zero. -/
theorem zero_word : (FloatOps.ofBits FTy.f32 0#32 : Ideal .f32) = 0 := Ideal.ofBits_zero_f32

/-- The first point starts the three sums from zero. -/
theorem first_step (c : Dev nD) (i : grid0.Coords) (arg1 : Memref sig .tc .vmem S1x64x8400 .f32) (harg1 : arg1.IsWhole) (arg2 : Memref sig .tc .vmem S1x64x6400 .f32) (harg2 : arg2.IsWhole) (arg3 : Memref sig .tc .vmem S1x64x6400 .f32) (harg3 : arg3.IsWhole) (arg4 : Memref sig .tc .vmem S1x64x2 .f32) (harg4 : arg4.IsWhole) (arg5 : Memref sig .tc .vmem S1x64x1 .i32) (harg5 : arg5.IsWhole) (arg6 : Memref sig .tc .smem S1x1 .f32) (harg6 : arg6.IsWhole) (arg7 : Memref sig .tc .smem S3 .f32) (harg7 : arg7.IsWhole) (hc0 : cond0_0 i) (hc1 : ¬cond0_1 i)
    (x0 : Vec Ideal S1x64x8400 .f32) (x1 : Vec Ideal S1x64x6400 .f32) (x2 : Vec Ideal S1x64x6400 .f32) (x3 : Vec Ideal S1x64x2 .f32) (x4 : Vec Ideal S1x64x1 .i32) :
    sout0_A_0 c i arg1 harg1 arg2 harg2 arg3 harg3 arg4 harg4 arg5 harg5 arg6 harg6 arg7 harg7 hc0 hc1 x0 x1 x2 x3 x4
      = trio (denOf x0) (corrOf x0 x3 x4) (distOf x1 x2 x3 x4) := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  sl_unfold_words
  simp only [View.readAt_eq_ld, harg1.read_unread, harg2.read_unread, harg3.read_unread, harg4.read_unread, harg5.read_unread, harg7.read_unread, View.ld_unit_zero (S := S1x64x8400) zero3, View.ld_unit_zero (S := S1x64x6400) zero3, View.ld_unit_zero (S := S1x64x2) zero3, View.ld_unit_zero (S := S1x64x1) zero3, shapeCast_self]
  refine (canon_trio ..).trans ?_
  simp only [add_den, add_corr, add_dist, zero_word, zero_add]

/-- A middle point adds its own share to each of the three sums. -/
theorem carry_step (c : Dev nD) (i : grid0.Coords) (arg1 : Memref sig .tc .vmem S1x64x8400 .f32) (harg1 : arg1.IsWhole) (arg2 : Memref sig .tc .vmem S1x64x6400 .f32) (harg2 : arg2.IsWhole) (arg3 : Memref sig .tc .vmem S1x64x6400 .f32) (harg3 : arg3.IsWhole) (arg4 : Memref sig .tc .vmem S1x64x2 .f32) (harg4 : arg4.IsWhole) (arg5 : Memref sig .tc .vmem S1x64x1 .i32) (harg5 : arg5.IsWhole) (arg6 : Memref sig .tc .smem S1x1 .f32) (harg6 : arg6.IsWhole) (arg7 : Memref sig .tc .smem S3 .f32) (harg7 : arg7.IsWhole) (hc0 : ¬cond0_0 i) (hc1 : ¬cond0_1 i)
    (x0 : Vec Ideal S1x64x8400 .f32) (x1 : Vec Ideal S1x64x6400 .f32) (x2 : Vec Ideal S1x64x6400 .f32) (x3 : Vec Ideal S1x64x2 .f32) (x4 : Vec Ideal S1x64x1 .i32) (a b d : EReal) :
    sout0_B_0 c i arg1 harg1 arg2 harg2 arg3 harg3 arg4 harg4 arg5 harg5 arg6 harg6 arg7 harg7 hc0 hc1 x0 x1 x2 x3 x4 (trio a b d)
      = trio (a + denOf x0) (b + corrOf x0 x3 x4) (d + distOf x1 x2 x3 x4) := by
  unfold sout0_B_0
  rw [View.read_writes_eq_canon _ _ _ (scover0_B_0 c i arg1 harg1 arg2 harg2 arg3 harg3 arg4 harg4 arg5 harg5 arg6 harg6 arg7 harg7 hc0 hc1 x0 x1 x2 x3 x4 (trio a b d))]
  unfold kernelRun0_B
  dsimp only
  sl_unfold_words
  simp only [View.readAt_eq_ld, harg1.read_unread, harg2.read_unread, harg3.read_unread, harg4.read_unread, harg5.read_unread, harg7.read_unread, View.ld_unit_zero (S := S1x64x8400) zero3, View.ld_unit_zero (S := S1x64x6400) zero3, View.ld_unit_zero (S := S1x64x2) zero3, View.ld_unit_zero (S := S1x64x1) zero3, shapeCast_self]
  refine (canon_trio ..).trans ?_
  simp only [add_den, add_corr, add_dist]
  rfl

/-- The last point adds its share and stores the combination of the three sums as the result. -/
theorem last_out (c : Dev nD) (i : grid0.Coords) (arg1 : Memref sig .tc .vmem S1x64x8400 .f32) (harg1 : arg1.IsWhole) (arg2 : Memref sig .tc .vmem S1x64x6400 .f32) (harg2 : arg2.IsWhole) (arg3 : Memref sig .tc .vmem S1x64x6400 .f32) (harg3 : arg3.IsWhole) (arg4 : Memref sig .tc .vmem S1x64x2 .f32) (harg4 : arg4.IsWhole) (arg5 : Memref sig .tc .vmem S1x64x1 .i32) (harg5 : arg5.IsWhole) (arg6 : Memref sig .tc .smem S1x1 .f32) (harg6 : arg6.IsWhole) (arg7 : Memref sig .tc .smem S3 .f32) (harg7 : arg7.IsWhole) (hc0 : ¬cond0_0 i) (hc1 : cond0_1 i)
    (x0 : Vec Ideal S1x64x8400 .f32) (x1 : Vec Ideal S1x64x6400 .f32) (x2 : Vec Ideal S1x64x6400 .f32) (x3 : Vec Ideal S1x64x2 .f32) (x4 : Vec Ideal S1x64x1 .i32) (a b d : EReal) :
    out0_C_5 c i arg1 harg1 arg2 harg2 arg3 harg3 arg4 harg4 arg5 harg5 arg6 harg6 arg7 harg7 hc0 hc1 x0 x1 x2 x3 x4 (trio a b d)
      = fun _ => k0_pay3 (F := Ideal) (b + corrOf x0 x3 x4) (a + denOf x0) (d + distOf x1 x2 x3 x4) := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 (trio a b d))]
  unfold kernelRun0_C
  dsimp only
  sl_unfold_words
  simp only [View.readAt_eq_ld, harg1.read_unread, harg2.read_unread, harg3.read_unread, harg4.read_unread, harg5.read_unread, harg7.read_unread, View.ld_unit_zero (S := S1x64x8400) zero3, View.ld_unit_zero (S := S1x64x6400) zero3, View.ld_unit_zero (S := S1x64x2) zero3, View.ld_unit_zero (S := S1x64x1) zero3, shapeCast_self]
  refine (View.canon_unit_zero zero2 ..).trans ?_
  simp only [add_den, add_corr, add_dist]
  rfl

/-! ## The three sums, point by point -/

variable (m : (ℓ : Loc nD τ sig) → Buf (Elt Ideal) ℓ)

/-- What point `n` adds to the sum of the logarithms. -/
def denAt (c : Dev nD) (n : ℕ) : EReal := if h : n < cfg0.N then denOf (iblk m c 0 ⟨n, h⟩) else 0
/-- What point `n` adds to the sum of the corrections. -/
def corrAt (c : Dev nD) (n : ℕ) : EReal :=
  if h : n < cfg0.N then corrOf (iblk m c 0 ⟨n, h⟩) (iblk m c 3 ⟨n, h⟩) (iblk m c 4 ⟨n, h⟩) else 0
/-- What point `n` adds to the sum of the distances. -/
def distAt (c : Dev nD) (n : ℕ) : EReal :=
  if h : n < cfg0.N then distOf (X0_1 m c ⟨n, h⟩) (X0_2 m c ⟨n, h⟩) (iblk m c 3 ⟨n, h⟩) (iblk m c 4 ⟨n, h⟩) else 0

/-- Before the last point the kernel carries the three running sums. -/
theorem carried (c : Dev nD) : ∀ (n : ℕ) (h : n < cfg0.N), n < 16 →
    (outsAt0 m c n h).2 = trio (∑ k ∈ Finset.range (n + 1), denAt m c k) (∑ k ∈ Finset.range (n + 1), corrAt m c k)
      (∑ k ∈ Finset.range (n + 1), distAt m c k)
  | 0, h, _ => by
    rw [outsAt0_A m c ⟨0, h⟩ rfl (by decide : ¬ (0 : ℕ) % 17 = 16)]
    dsimp only
    rw [first_step]
    simp only [zero_add, Finset.sum_range_one, denAt, corrAt, distAt, dif_pos h]
  | n + 1, h, h16 => by
    rw [outsAt0_B m c ⟨n + 1, h⟩ (by dsimp only; omega) (by dsimp only; omega)]
    dsimp only
    simp only [Nat.add_sub_cancel]
    rw [carried c n (Nat.lt_of_succ_lt h) (by omega)]
    rw [carry_step]
    simp only [Finset.sum_range_succ _ (n + 1), denAt, corrAt, distAt, dif_pos h]

/-- The last point stores the combination of the three whole sums. -/
theorem stored (c : Dev nD) (h : 16 < cfg0.N) :
    (outsAt0 m c 16 h).1 = fun _ => k0_pay3 (F := Ideal) (∑ k ∈ Finset.range 17, corrAt m c k)
      (∑ k ∈ Finset.range 17, denAt m c k) (∑ k ∈ Finset.range 17, distAt m c k) := by
  rw [outsAt0_C m c ⟨16, h⟩ (by decide : ¬ (16 : ℕ) % 17 = 0) (by decide : (16 : ℕ) % 17 = 16)]
  dsimp only
  simp only [show (16 : ℕ) - 1 = 15 from rfl]
  rw [carried m c 15 (Nat.lt_of_succ_lt h) (by omega)]
  rw [last_out]
  simp only [Finset.sum_range_succ _ 16, denAt, corrAt, distAt, dif_pos h]

end Cert.Pose

end
-- ==== Proof.Reads.lean ====
/-
  Where the blocks of a point of the grid come from: each entry of a block as an entry of the kernel's arguments.
-/
module

public import proofs.«01_k».proof.Proof.Acc
public import Idealize.ShloMosaic.Lib.Pointwise
public import Idealize.ShloMosaic.Lib.Claim

@[expose] public section

set_option maxRecDepth 16384

noncomputable section

namespace Cert.Pose

open Idealize.ShloMosaic Idealize.ShloMosaic.TcCoe
open Cert.KernelIdeal Cert.KernelIdeal.Gen

variable (m : (ℓ : Loc nD τ sig) → Buf (Elt Ideal) ℓ)

/-- At point `t` the confidences are row `3 t + 2` of the transposed predictions. -/
theorem index_0 : ∀ t : Fin cfg0.N, win0_0.index t = ![3 * t.val + 2, 0, 0] := by decide +kernel
/-- At point `t` the horizontal predictions are row `3 t`. -/
theorem index_1 : ∀ t : Fin cfg0.N, win0_1.index t = ![3 * t.val, 0, 0] := by decide +kernel
/-- At point `t` the vertical predictions are row `3 t + 1`. -/
theorem index_2 : ∀ t : Fin cfg0.N, win0_2.index t = ![3 * t.val + 1, 0, 0] := by decide +kernel
/-- At point `t` the keypoints are those of joint `t`. -/
theorem index_3 : ∀ t : Fin cfg0.N, win0_3.index t = ![t.val, 0, 0] := by decide +kernel
/-- At point `t` the visibilities are those of joint `t`. -/
theorem index_4 : ∀ t : Fin cfg0.N, win0_4.index t = ![t.val, 0, 0] := by decide +kernel

/-- There are seventeen points. -/
theorem lt17 (t : Fin cfg0.N) : t.val < 17 := by have := t.isLt; exact this.trans_eq N_0

/-! ## The arrays the kernel's blocks are cut from -/

/-- The launch reads the predictions with the image and row axes exchanged. -/
theorem rows_eq (c : Dev nD) : (V m c main_call0_v0 : Vec Ideal S51x64x8400 .f32)
    = transpose S51x64x8400 [1, 0, 2] (m ((c : Thread nD τ).loc main_arg0) : Vec Ideal S64x51x8400 .f32) transposes_S64x51x8400_S51x64x8400_1_0_2 := by
  show StableHlo.after (hostOps0 (F := Ideal)) (fun b => m (c, b)) _ = _
  unfold hostOps0
  after_results
  rfl

/-- The launch reads the keypoints with the image and joint axes exchanged. -/
theorem points_eq (c : Dev nD) : (V m c main_call0_v1 : Vec Ideal S17x64x2 .f32)
    = transpose S17x64x2 [1, 0, 2] (m ((c : Thread nD τ).loc main_arg2) : Vec Ideal S64x17x2 .f32) transposes_S64x17x2_S17x64x2_1_0_2 := by
  show StableHlo.after (hostOps0 (F := Ideal)) (fun b => m (c, b)) _ = _
  unfold hostOps0
  after_results
  rfl

/-- The launch reads the marks of visibility, joint by joint, as words. -/
theorem marks_eq (c : Dev nD) : (V m c main_call0_v6 : IVec S17x64x1 32)
    = shapeCast S17x64x1 (transpose S17x64 [1, 0] (extui 32 (cmpi .eq (m ((c : Thread nD τ).loc main_arg3) : IVec S64x17 32)
        (broadcastInDim S64x17 ![] bcast_S_S64x17 (constantI S_ 32 1#32))) natLt_1_32) transposes_S64x17_S17x64_1_0) shapeCasts_S17x64_S17x64x1 := by
  show StableHlo.after (hostOps0 (F := Ideal)) (fun b => m (c, b)) _ = _
  unfold hostOps0
  after_results
  rfl

/-- A mark is the word one where the given word is one, and the zero word elsewhere. -/
theorem mark_word (x : BitVec 32) :
    BitVec.setWidth 32 (IntOp.cmpi CmpIPredicate.eq x 1#32) = if x = 1#32 then 1#32 else 0#32 := by
  by_cases h : x = 1#32
  · rw [if_pos h, h]; rfl
  · rw [if_neg h]
    show BitVec.setWidth 32 (BitVec.ofBool (x == 1#32)) = 0#32
    rw [beq_false_of_ne h]; rfl

/-! ## The blocks -/

/-- The block of confidences, as an entry of the predictions. -/
theorem conf_read (c : Dev nD) (t : Fin cfg0.N) (b : Fin 64) (g : Fin 8400) :
    iblk m c 0 t (ix3 0 b g)
      = m ((c : Thread nD τ).loc main_arg0) (ix3 b ⟨3 * t.val + 2, by have := lt17 t; omega⟩ g) := by
  have e : (win0_0.blk t).view.emb (ix3 0 b g) = (ix3 ⟨3 * t.val + 2, by have := lt17 t; omega⟩ b g : S51x64x8400.Idx) := by
    blk_ext [index_0 t]
  show (V m c main_call0_v0 : Vec Ideal S51x64x8400 .f32) ((win0_0.blk t).view.emb (ix3 0 b g)) = _
  rw [e, rows_eq]
  pointwise

/-- The block of horizontal predictions, as an entry of the predictions. -/
theorem x_read (c : Dev nD) (t : Fin cfg0.N) (b : Fin 64) (g : Fin 6400) :
    X0_1 m c t (ix3 0 b g)
      = m ((c : Thread nD τ).loc main_arg0) (ix3 b ⟨3 * t.val, by have := lt17 t; omega⟩ ⟨g.val, by omega⟩) := by
  unfold X0_1 Pipeline.Window.fill
  rw [dif_pos (moved0_1 t _)]
  show (V m c main_call0_v0 : Vec Ideal S51x64x8400 .f32) ((win0_1.blk t).view.emb fun a => ⟨((ix3 0 b g : S1x64x6400.Idx) a).val, _⟩) = _
  have e : ((win0_1.blk t).view.emb fun a => ⟨((ix3 0 b g : S1x64x6400.Idx) a).val, by exact ((Pipeline.Window.moved_iff _ _ _).mp (moved0_1 t (ix3 0 b g)) a)⟩) = (ix3 ⟨3 * t.val, by have := lt17 t; omega⟩ b ⟨g.val, by omega⟩ : S51x64x8400.Idx) := by
    blk_ext [index_1 t]
  refine (congrArg (V m c main_call0_v0 : Vec Ideal S51x64x8400 .f32) e).trans ?_
  rw [rows_eq]
  pointwise

/-- The block of vertical predictions, as an entry of the predictions. -/
theorem y_read (c : Dev nD) (t : Fin cfg0.N) (b : Fin 64) (g : Fin 6400) :
    X0_2 m c t (ix3 0 b g)
      = m ((c : Thread nD τ).loc main_arg0) (ix3 b ⟨3 * t.val + 1, by have := lt17 t; omega⟩ ⟨g.val, by omega⟩) := by
  unfold X0_2 Pipeline.Window.fill
  rw [dif_pos (moved0_2 t _)]
  have e : ((win0_2.blk t).view.emb fun a => ⟨((ix3 0 b g : S1x64x6400.Idx) a).val, by exact ((Pipeline.Window.moved_iff _ _ _).mp (moved0_2 t (ix3 0 b g)) a)⟩) = (ix3 ⟨3 * t.val + 1, by have := lt17 t; omega⟩ b ⟨g.val, by omega⟩ : S51x64x8400.Idx) := by
    blk_ext [index_2 t]
  refine (congrArg (V m c main_call0_v0 : Vec Ideal S51x64x8400 .f32) e).trans ?_
  rw [rows_eq]
  pointwise

/-- The block of keypoints, as an entry of the keypoints. -/
theorem gt_read (c : Dev nD) (t : Fin cfg0.N) (b : Fin 64) (k : Fin 2) :
    iblk m c 3 t (ix3 0 b k) = m ((c : Thread nD τ).loc main_arg2) (ix3 b ⟨t.val, lt17 t⟩ k) := by
  have e : (win0_3.blk t).view.emb (ix3 0 b k) = (ix3 ⟨t.val, lt17 t⟩ b k : S17x64x2.Idx) := by
    blk_ext [index_3 t]
  show (V m c main_call0_v1 : Vec Ideal S17x64x2 .f32) ((win0_3.blk t).view.emb (ix3 0 b k)) = _
  rw [e, points_eq]
  pointwise

/-- The block of marks: one where the visibility is one, else zero. -/
theorem vis_read (c : Dev nD) (t : Fin cfg0.N) (b : Fin 64) :
    iblk m c 4 t (ix3 0 b 0)
      = if m ((c : Thread nD τ).loc main_arg3) (ix2 b ⟨t.val, lt17 t⟩) = 1#32 then 1#32 else 0#32 := by
  have e : (win0_4.blk t).view.emb (ix3 0 b 0) = (ix3 ⟨t.val, lt17 t⟩ b 0 : S17x64x1.Idx) := by
    blk_ext [index_4 t]
  show (V m c main_call0_v6 : IVec S17x64x1 32) ((win0_4.blk t).view.emb (ix3 0 b 0)) = _
  rw [e, marks_eq]
  pointwise
  exact mark_word _

end Cert.Pose

end
-- ==== Proof.Out.lean ====
/-
  The number that the kernel leaves in its result, from the three sums at the last point of the grid.
-/
module

public import proofs.«01_k».proof.Proof.Reads

@[expose] public section

set_option maxRecDepth 16384

noncomputable section

namespace Cert.Pose

open Idealize.ShloMosaic Idealize.ShloMosaic.TcCoe Idealize.SL Idealize.SL.Sem
open Cert.KernelIdeal Cert.KernelIdeal.Gen

variable (m : (ℓ : Loc nD τ sig) → Buf (Elt Ideal) ℓ) (ρ : Dev nD → PrngReg)

/-- The number the kernel returns, as a combination of three sums over the seventeen keypoints. -/
def kernelValue (c : Dev nD) : EReal :=
  k0_pay3 (F := Ideal) (∑ k ∈ Finset.range 17, corrAt m c k) (∑ k ∈ Finset.range 17, denAt m c k) (∑ k ∈ Finset.range 17, distAt m c k)

/-- The last of the seventeen points. -/
abbrev last : Fin cfg0.N := ⟨16, by rw [show cfg0.N = 17 from N_0]; decide⟩

/-- The one-word result array ends at that number. -/
theorem array_eq (c : Dev nD) : (dats m 0 c).arrAt 5 cfg0.N = fun _ => kernelValue m c := by
  refine (dats m 0 c).arrAt_eq_of_after_last 5 last (by decide +kernel) _ fun j => ?_
  blk_simp
  rw [after0_5]
  exact congrFun (stored m c last.isLt) _

/-- Every run ends with the result buffer at that number. -/
theorem kernel_run : θ_run defs (onTc (τ := τ) (main (F := Ideal))) ⟨m, fun _ => 0, ρ⟩
    (fun r => ∀ c : Dev nD, r.2.mem ((c : Thread nD τ).loc main_v0) = (fun _ => kernelValue m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  run_from run_main m ρ
  · unfold Pipeline.afterTail₀
    show StableHlo.after (hostOps1 (F := Ideal)) _ _ = _
    unfold hostOps1
    after_results
    have e : Pipeline.withArrays (cfgs 0).spec c (V0 m c) (fun w => (dats m 0 c).arrAt w (cfgs 0).N)
        (Proc.tc.devRef main_call0_v7) = fun _ => kernelValue m c :=
      (Pipeline.withArrays_arr_shared (cfgs 0).spec c (V0 m c) _
        ((dats m 0 c).arrAt_sharedIn sharedIn0 (V0 m c) (A_eq m c) _) 5).trans (array_eq m c)
    funext i
    exact congrFun e _
  · exact W_main_arg0 m (dats m) c
  · exact W_main_arg1 m (dats m) c
  · exact W_main_arg2 m (dats m) c
  · exact W_main_arg3 m (dats m) c

end Cert.Pose

end
-- ==== Proof.Arrays.lean ====
/-
  The argument arrays read by image, joint and cell: the row of a joint's first coordinate, of its second and of its
  confidence, the keypoint of a joint and whether it is visible.
-/
module

public import proofs.«01_k».proof.Proof.Terms

@[expose] public section

noncomputable section

namespace Cert.Pose

open Idealize.ShloMosaic

/-- The predictions: for every image, the three rows of each joint, a number for every cell. -/
abbrev Outs : Type := Vec Ideal ⟨3, ![64, 51, 8400]⟩ .f32
/-- The keypoints: for every image and joint, two coordinates. -/
abbrev Gts : Type := Vec Ideal ⟨3, ![64, 17, 2]⟩ .f32
/-- The visibilities: for every image and joint, a word. -/
abbrev Marks : Type := Vec Ideal ⟨2, ![64, 17]⟩ .i32

/-- The first coordinate predicted at a cell. -/
def posX (a : Outs) (b : Fin 64) (j : Fin 17) (g : Fin 8400) : EReal := a (ix3 b ⟨3 * j.val, by omega⟩ g)
/-- The second coordinate predicted at a cell. -/
def posY (a : Outs) (b : Fin 64) (j : Fin 17) (g : Fin 8400) : EReal := a (ix3 b ⟨3 * j.val + 1, by omega⟩ g)
/-- The confidence predicted at a cell. -/
def conf (a : Outs) (b : Fin 64) (j : Fin 17) (g : Fin 8400) : EReal := a (ix3 b ⟨3 * j.val + 2, by omega⟩ g)
/-- The first coordinate of a keypoint. -/
def gtX (p : Gts) (b : Fin 64) (j : Fin 17) : EReal := p (ix3 b j 0)
/-- The second coordinate of a keypoint. -/
def gtY (p : Gts) (b : Fin 64) (j : Fin 17) : EReal := p (ix3 b j 1)
/-- Whether a keypoint is visible: its word is one. -/
abbrev seen (v : Marks) (b : Fin 64) (j : Fin 17) : Prop := (v (ix2 b j) : BitVec 32) = 1#32
/-- The square of a number. -/
abbrev sq (x : EReal) : EReal := x * x

end Cert.Pose

end
-- ==== Proof.Sums.lean ====
/-
  The number the kernel returns as three plain sums over images, joints and cells of the argument arrays, when the cell of
  every keypoint is known.
-/
module

public import proofs.«01_k».proof.Proof.Out
public import proofs.«01_k».proof.Proof.Arrays

@[expose] public section

set_option maxRecDepth 16384

noncomputable section

namespace Cert.Pose

open Idealize.ShloMosaic Idealize.ShloMosaic.TcCoe
open Cert.KernelIdeal Cert.KernelIdeal.Gen

variable (m : (ℓ : Loc nD τ sig) → Buf (Elt Ideal) ℓ) (c : Dev nD)

/-- The predictions of a device. -/
abbrev outs : Outs := m ((c : Thread nD τ).loc main_arg0)
/-- The keypoints of a device. -/
abbrev gts : Gts := m ((c : Thread nD τ).loc main_arg2)
/-- The visibilities of a device. -/
abbrev marks : Marks := m ((c : Thread nD τ).loc main_arg3)

/-- What the sum over the array of cells adds for a joint. -/
theorem den_at (j : Fin 17) :
    denAt m c j.val = ∑ b : Fin 64, ∑ g : Fin 8400, Ideal.log (1 - conf (outs m c) b j g) := by
  have h : j.val < cfg0.N := j.isLt.trans_eq N_0.symm
  unfold denAt
  rw [dif_pos h, denOf, den_eq]
  refine Finset.sum_congr rfl fun b _ => Finset.sum_congr rfl fun g _ => ?_
  rw [conf_read]
  rfl

/-- The weight of a keypoint in the kernel: one where it is visible, zero elsewhere. -/
theorem weight_eq (t : Fin cfg0.N) (b : Fin 64) :
    k0_pay10 (F := Ideal) (iblk m c 4 t) (ix3 0 b 0) = if seen (marks m c) b ⟨t.val, lt17 t⟩ then 1 else 0 := by
  pointwise [k0_pay10]
  rw [vis_read]
  by_cases h : seen (marks m c) b ⟨t.val, lt17 t⟩
  · rw [if_pos h]
    refine Eq.trans ?_ (if_pos h).symm
    show (((1#32 : BitVec 32).toInt : ℝ) : EReal) = 1
    norm_num
  · rw [if_neg h]
    refine Eq.trans ?_ (if_neg h).symm
    show (((0#32 : BitVec 32).toInt : ℝ) : EReal) = 0
    norm_num

/-- What the correction at the keypoints' cells adds for a joint. -/
theorem corr_at (n : Fin 64 → Fin 17 → Fin 6400)
    (hn : ∀ b j, cellWord (gtX (gts m c) b j) (gtY (gts m c) b j) = BitVec.ofNat 32 (n b j).val) (j : Fin 17) :
    corrAt m c j.val = ∑ b : Fin 64, (if seen (marks m c) b j then 1 else 0) *
      (logq (conf (outs m c) b j ((n b j).castLE (by decide))) - logp (conf (outs m c) b j ((n b j).castLE (by decide)))) := by
  have h : j.val < cfg0.N := j.isLt.trans_eq N_0.symm
  unfold corrAt
  rw [dif_pos h, corrOf, corr_eq _ _ _ (fun b => n b j)]
  · refine Finset.sum_congr rfl fun b _ => ?_
    rw [weight_eq]
    pointwise [k0_pay4]
    exact congrArg (fun z : EReal => (if seen (marks m c) b j then 1 else 0) * (logq z - logp z))
      (conf_read m c ⟨j.val, h⟩ b _)
  · intro b g
    refine mask_eq _ b (n b j) g ?_
    rw [gt_read, gt_read]
    exact hn b j

/-- What the squared distances at the keypoints' cells add for a joint. -/
theorem dist_at (n : Fin 64 → Fin 17 → Fin 6400)
    (hn : ∀ b j, cellWord (gtX (gts m c) b j) (gtY (gts m c) b j) = BitVec.ofNat 32 (n b j).val) (j : Fin 17) :
    distAt m c j.val = ∑ b : Fin 64, (if seen (marks m c) b j then 1 else 0) *
      (sq (posX (outs m c) b j ((n b j).castLE (by decide)) - gtX (gts m c) b j)
        + sq (posY (outs m c) b j ((n b j).castLE (by decide)) - gtY (gts m c) b j)) := by
  have h : j.val < cfg0.N := j.isLt.trans_eq N_0.symm
  unfold distAt
  rw [dif_pos h, distOf, dist_eq _ _ _ _ _ _ (fun b => n b j)]
  · refine Finset.sum_congr rfl fun b _ => ?_
    rw [weight_eq]
    pointwise [k0_pay5, k0_pay6, k0_pay8, k0_pay9, k0_pay7]
    have ex := congrArg₂ (fun u w : EReal => sq (u - w)) (x_read m c ⟨j.val, h⟩ b (n b j)) (gt_read m c ⟨j.val, h⟩ b 0)
    have ey := congrArg₂ (fun u w : EReal => sq (u - w)) (y_read m c ⟨j.val, h⟩ b (n b j)) (gt_read m c ⟨j.val, h⟩ b 1)
    exact congrArg₂ (fun u w : EReal => (if seen (marks m c) b j then 1 else 0) * (u + w)) ex ey
  · intro b g
    refine mask_eq _ b (n b j) g ?_
    rw [gt_read, gt_read]
    exact hn b j

/-- The number the kernel returns. -/
theorem kernelValue_eq (n : Fin 64 → Fin 17 → Fin 6400)
    (hn : ∀ b j, cellWord (gtX (gts m c) b j) (gtY (gts m c) b j) = BitVec.ofNat 32 (n b j).val) :
    kernelValue m c
      = Ideal.div ((∑ j : Fin 17, ∑ b : Fin 64, (if seen (marks m c) b j then 1 else 0) *
            (logq (conf (outs m c) b j ((n b j).castLE (by decide))) - logp (conf (outs m c) b j ((n b j).castLE (by decide)))))
          - ∑ j : Fin 17, ∑ b : Fin 64, ∑ g : Fin 8400, Ideal.log (1 - conf (outs m c) b j g)) count
        + Ideal.div (∑ j : Fin 17, ∑ b : Fin 64, (if seen (marks m c) b j then 1 else 0) *
            (sq (posX (outs m c) b j ((n b j).castLE (by decide)) - gtX (gts m c) b j)
              + sq (posY (outs m c) b j ((n b j).castLE (by decide)) - gtY (gts m c) b j))) images := by
  unfold kernelValue
  rw [Finset.sum_range, Finset.sum_range, Finset.sum_range, Finset.sum_congr rfl fun j _ => corr_at m c n hn j,
    Finset.sum_congr rfl fun j _ => den_at m c j, Finset.sum_congr rfl fun j _ => dist_at m c n hn j]
  rfl

end Cert.Pose

end
-- ==== Proof.RefCell.lean ====
/-
  The reference's cell of a keypoint, and the words with which it scatters and gathers at that cell.
-/
module

public import proofs.«01_k».proof.Proof.Arrays
public import proofs.«01_k».proof.Proof.Gen.ReferenceIdeal.Read
public import Idealize.ShloMosaic.Lib.Routing.OpsSet
public import Idealize.ShloMosaic.Lib.ReduceAll

@[expose] public section

set_option maxRecDepth 16384

noncomputable section

namespace Cert.Pose

open Idealize.ShloMosaic
open Cert.ReferenceIdeal Cert.ReferenceIdeal.Read Cert.ReferenceIdeal.Gen

/-- The cell's word. -/
theorem word_at (p : Gts) (b : Fin 64) (j : Fin 17) :
    val_main_v16 (F := Ideal) p (ix2 b j) = cellWord (gtX p b j) (gtY p b j) := by
  pointwise [val_main_v16, val_main_v15, val_main_v14, val_main_v13, val_main_v12, val_main_v11, val_main_v10, val_main_v9,
    val_main_v8, val_main_v7, val_main_v6, val_main_v5, val_main_v4, val_main_v3, val_main_cst, val_main_cst_0, val_main_cst_1]
  unfold cellWord gtX gtY
  rw [← div_side, ← div_side]
  rfl

/-- An index word below `2 ^ 31` is left as it is by the step that counts negative indices from the end. -/
theorem wrap_ofNat (n : ℕ) (h : n < 2 ^ 31) (a : BitVec 32) :
    Scalar.select (IntOp.cmpi CmpIPredicate.slt (BitVec.ofNat 32 n) 0#32) a (BitVec.ofNat 32 n) = BitVec.ofNat 32 n :=
  Routing.wrap_of_lt _ _ (by rw [BitVec.toNat_ofNat]; omega)

/-- An index word below `2 ^ 31` read as a signed number. -/
theorem toInt_ofNat (n : ℕ) (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

/-- The scatter's first index word: the image. -/
theorem at_image (p : Gts) (b : Fin 64) (j : Fin 17) :
    val_main_v45 (F := Ideal) p (ix3 b j 0) = BitVec.ofNat 32 b.val := by
  pointwise [val_main_v45, val_main_v42, val_main_v40, val_main_v29, val_main_v28, val_main_v27, val_main_v26, val_main_v25,
    val_main_v20, val_main_v19, val_main_c_3, val_main_c_4]
  exact wrap_ofNat _ (by omega) _

/-- The scatter's second index word: the joint. -/
theorem at_joint (p : Gts) (b : Fin 64) (j : Fin 17) :
    val_main_v45 (F := Ideal) p (ix3 b j 1) = BitVec.ofNat 32 j.val := by
  pointwise [val_main_v45, val_main_v43, val_main_v41, val_main_v34, val_main_v33, val_main_v32, val_main_v31, val_main_v30,
    val_main_v22, val_main_v21, val_main_c_5, val_main_c_6]
  exact wrap_ofNat _ (by omega) _

/-- The scatter's third index word: the cell. -/
theorem at_cell (p : Gts) (b : Fin 64) (j : Fin 17) (n : Fin 6400) (hn : cellWord (gtX p b j) (gtY p b j) = BitVec.ofNat 32 n.val) :
    val_main_v45 (F := Ideal) p (ix3 b j 2) = BitVec.ofNat 32 n.val := by
  pointwise [val_main_v45, val_main_v44, val_main_v39, val_main_v38, val_main_v37, val_main_v36, val_main_v35, val_main_c_7, val_main_c_8]
  rw [word_at, hn]
  exact wrap_ofNat _ (by omega) _

/-! ## The scattered marks -/

/-- The dimension numbers of the scatter. -/
abbrev put : ScatterDims S64x17x8400 S64x17x3 S64x17 := scatter_S64x17x8400_S64x17x3_S64x17_n_012_012_2

/-- Every axis of the marks is indexed, so a mark has no extent of its own. -/
theorem put_window (k : S64x17.Idx) (a : Fin 3) : put.window k a = 0 := by
  unfold ScatterDims.window
  have h : ∀ a : Fin 3, a ∉ S64x17x8400.kept [0, 1, 2] := by decide
  exact dif_neg (h a)

/-- The three index words of a keypoint, read as signed numbers, are the place where its mark starts. -/
theorem put_start (idx : IVec S64x17x3 32) (b : Fin 64) (j : Fin 17) (a : Fin 3) :
    put.start (ix2 b j) idx a = (idx (ix3 b j a)).toInt := by
  unfold ScatterDims.start
  have h : ∀ a : Fin 3, a ∈ ([0, 1, 2] : List (Fin 3)) := by decide
  refine (dif_pos (h a)).trans ?_
  congr 2
  funext e
  match a, e with
  | ⟨0, _⟩, ⟨0, _⟩ => rfl
  | ⟨0, _⟩, ⟨1, _⟩ => rfl
  | ⟨0, _⟩, ⟨2, _⟩ => rfl
  | ⟨1, _⟩, ⟨0, _⟩ => rfl
  | ⟨1, _⟩, ⟨1, _⟩ => rfl
  | ⟨1, _⟩, ⟨2, _⟩ => rfl
  | ⟨2, _⟩, ⟨0, _⟩ => rfl
  | ⟨2, _⟩, ⟨1, _⟩ => rfl
  | ⟨2, _⟩, ⟨2, _⟩ => rfl

/-- Where the mark of image `b'` and joint `j'` lands. -/
theorem put_at (p : Gts) (n : Fin 64 → Fin 17 → Fin 6400)
    (hn : ∀ b j, cellWord (gtX p b j) (gtY p b j) = BitVec.ofNat 32 (n b j).val) (b' b : Fin 64) (j' j : Fin 17) (g : Fin 8400) :
    put.resultIdx? (ix2 b' j') (val_main_v45 (F := Ideal) p) = some (ix3 b j g)
      ↔ b' = b ∧ j' = j ∧ (n b' j').val = g.val := by
  have e0 := put_start (val_main_v45 (F := Ideal) p) b' j' 0
  have e1 := put_start (val_main_v45 (F := Ideal) p) b' j' 1
  have e2 := put_start (val_main_v45 (F := Ideal) p) b' j' 2
  rw [at_image, toInt_ofNat _ (by omega)] at e0
  rw [at_joint, toInt_ofNat _ (by omega)] at e1
  rw [at_cell p b' j' _ (hn b' j'), toInt_ofNat _ (by omega)] at e2
  rw [Routing.resultIdx?_eq_some]
  constructor
  · intro h
    have h0 := h 0
    have h1 := h 1
    have h2 := h 2
    rw [put_window] at h0 h1 h2
    rw [e0] at h0
    rw [e1] at h1
    rw [e2] at h2
    refine ⟨Fin.ext ?_, Fin.ext ?_, ?_⟩
    · exact_mod_cast h0
    · exact_mod_cast h1
    · exact_mod_cast h2
  · rintro ⟨rfl, rfl, hg⟩ a
    rw [put_window]
    match a with
    | ⟨0, _⟩ => rw [Nat.cast_zero, add_zero]; exact e0
    | ⟨1, _⟩ => rw [Nat.cast_zero, add_zero]; exact e1
    | ⟨2, _⟩ => rw [Nat.cast_zero, add_zero]; exact e2.trans (by exact_mod_cast hg)

/-- The mark of a keypoint, a number. -/
theorem mark_at (v : Marks) (b : Fin 64) (j : Fin 17) :
    val_main_v24 (F := Ideal) v (ix2 b j) = if seen v b j then 1 else 0 := by
  pointwise [val_main_v24, val_main_v18, val_main_v17, val_main_c]
  by_cases h : seen v b j
  · rw [if_pos h, h]
    show (((1#1 : BitVec 1).toNat : ℝ) : EReal) = 1
    norm_num
  · rw [if_neg h]
    have e : IntOp.cmpi CmpIPredicate.eq (v (ix2 b j)) 1#32 = 0#1 := by
      show BitVec.ofBool (v (ix2 b j) == 1#32) = 0#1
      rw [beq_false_of_ne h]
      rfl
    rw [e]
    show (((0#1 : BitVec 1).toNat : ℝ) : EReal) = 0
    norm_num

/-- The array of marks: the keypoint's mark at its cell, zero at the other cells. -/
theorem marks_at (p : Gts) (v : Marks) (n : Fin 64 → Fin 17 → Fin 6400)
    (hn : ∀ b j, cellWord (gtX p b j) (gtY p b j) = BitVec.ofNat 32 (n b j).val) (b : Fin 64) (j : Fin 17) (g : Fin 8400) :
    val_main_v46 (F := Ideal) p v (ix3 b j g) = if (n b j).val = g.val then (if seen v b j then 1 else 0) else 0 := by
  unfold val_main_v46
  by_cases hg : (n b j).val = g.val
  · rw [if_pos hg, ← mark_at]
    refine Routing.scatter_set_hit _ _ _ _ _ _ (fun k hk => ?_) (ix2 b j) ((put_at p n hn b b j j g).2 ⟨rfl, rfl, hg⟩)
    obtain ⟨b', j', rfl⟩ : ∃ b' j', k = ix2 b' j' := ⟨_, _, eq_ix2 k⟩
    obtain ⟨rfl, rfl, _⟩ := (put_at p n hn b' b j' j g).1 hk
    rfl
  · rw [if_neg hg]
    refine (Routing.scatter_set_miss _ _ _ _ _ (fun k hk => ?_)).trans ?_
    · obtain ⟨b', j', rfl⟩ : ∃ b' j', k = ix2 b' j' := ⟨_, _, eq_ix2 k⟩
      obtain ⟨rfl, rfl, h⟩ := (put_at p n hn b' b j' j g).1 hk
      exact hg h
    · pointwise [val_main_v23, val_main_cst_2]

/-! ## The gathered predictions -/

/-- The dimension numbers of the gather. -/
abbrev take : GatherDims S64x17x8400 S64x17x1x1 S64x17x1 := gather_S64x17x8400_S64x17x1x1_S64x17x1_n_2_01_01_2_3_111

/-- The gather reads, for each image and joint, the cell that the index word names. -/
theorem take_at (x : Vec Ideal S64x17x8400 .f32) (idx : IVec S64x17x1x1 32) (b : Fin 64) (j : Fin 17) (n : Fin 6400)
    (h : idx (ix4 b j 0 0) = BitVec.ofNat 32 n.val) :
    Host.gather take x idx (ix3 b j 0) = x (ix3 b j (n.castLE (by decide))) := by
  unfold Host.gather
  congr 1
  funext a
  apply Fin.ext
  have hs : ∀ a : Fin 3, a ∉ S64x17x8400.kept ([2] ++ [0, 1]) := by decide
  have h0 : (0 : Fin 3) ∉ ([2] : List (Fin 3)) := by decide
  have h1 : (1 : Fin 3) ∉ ([2] : List (Fin 3)) := by decide
  have h2 : (2 : Fin 3) ∈ ([2] : List (Fin 3)) := by decide
  have b0 : (0 : Fin 3) ∈ ([0, 1] : List (Fin 3)) := by decide
  have b1 : (1 : Fin 3) ∈ ([0, 1] : List (Fin 3)) := by decide
  have b2 : (2 : Fin 3) ∉ ([0, 1] : List (Fin 3)) := by decide
  show take.start (ix3 b j 0) idx a + take.batchCoord (ix3 b j 0) a + take.offCoord (ix3 b j 0) a = _
  rw [take.offCoord_eq_zero _ _ (hs a), Nat.add_zero]
  match a with
  | ⟨0, _⟩ =>
    have e0 : take.start (ix3 b j 0) idx 0 = 0 := dif_neg h0
    have e1 : take.batchCoord (ix3 b j 0) 0 = b.val := (dif_pos b0).trans rfl
    exact (congrArg₂ (· + ·) e0 e1).trans (Nat.zero_add _)
  | ⟨1, _⟩ =>
    have e0 : take.start (ix3 b j 0) idx 1 = 0 := dif_neg h1
    have e1 : take.batchCoord (ix3 b j 0) 1 = j.val := (dif_pos b1).trans rfl
    exact (congrArg₂ (· + ·) e0 e1).trans (Nat.zero_add _)
  | ⟨2, _⟩ =>
    have hi : take.siIdx (ix3 b j 0) ⟨0, by decide⟩ = ix4 b j 0 0 := by
      funext e
      match e with
      | ⟨0, _⟩ => rfl
      | ⟨1, _⟩ => rfl
      | ⟨2, _⟩ => rfl
      | ⟨3, _⟩ => rfl
    have e0 : take.start (ix3 b j 0) idx 2 = min (idx (take.siIdx (ix3 b j 0) ⟨0, by decide⟩)).toInt.toNat 8399 :=
      (dif_pos h2).trans rfl
    have e1 : take.batchCoord (ix3 b j 0) 2 = 0 := dif_neg b2
    rw [hi, h, toInt_ofNat _ (by omega), Int.toNat_natCast, min_eq_left (by omega)] at e0
    exact (congrArg₂ (· + ·) e0 e1).trans (Nat.add_zero _)

end Cert.Pose

end
-- ==== Proof.RefTake.lean ====
/-
  The coordinates that the reference gathers for a keypoint: the predictions at the keypoint's cell.
-/
module

public import proofs.«01_k».proof.Proof.RefCell

@[expose] public section

set_option maxRecDepth 16384

noncomputable section

namespace Cert.Pose

open Idealize.ShloMosaic
open Cert.ReferenceIdeal Cert.ReferenceIdeal.Read Cert.ReferenceIdeal.Gen

/-- An index word at most `8399` is inside the array. -/
theorem inside_ofNat (n : ℕ) (h : n ≤ 8399) :
    IntOp.andi (IntOp.cmpi CmpIPredicate.sge (BitVec.ofNat 32 n) 0#32) (IntOp.cmpi CmpIPredicate.sle (BitVec.ofNat 32 n) 8399#32)
      = 1#1 := by
  have e1 : IntOp.cmpi CmpIPredicate.sge (BitVec.ofNat 32 n) 0#32 = 1#1 := by
    show BitVec.ofBool ((0#32).sle (BitVec.ofNat 32 n)) = 1#1
    rw [BitVec.sle, toInt_ofNat n (by omega), decide_eq_true (by simp)]
    rfl
  have e2 : IntOp.cmpi CmpIPredicate.sle (BitVec.ofNat 32 n) 8399#32 = 1#1 := by
    show BitVec.ofBool ((BitVec.ofNat 32 n).sle 8399#32) = 1#1
    rw [BitVec.sle, toInt_ofNat _ (by omega), toInt_ofNat 8399 (by omega), decide_eq_true (by omega)]
    rfl
  rw [e1, e2]
  rfl

variable (p : Gts) (n : Fin 64 → Fin 17 → Fin 6400)
  (hn : ∀ b j, cellWord (gtX p b j) (gtY p b j) = BitVec.ofNat 32 (n b j).val)

include hn

/-- The gather's index word: the cell. -/
theorem take_word (b : Fin 64) (j : Fin 17) :
    val_main_call0_v5 (F := Ideal) p (ix4 b j 0 0) = BitVec.ofNat 32 (n b j).val := by
  pointwise [val_main_call0_v5, val_main_call0_v4, val_main_call0_v3, val_main_call0_v2, val_main_call0_v1, val_main_call0_v0,
    val_main_call0_c_0, val_main_call0_c, val_main_v47]
  rw [word_at, hn]
  exact wrap_ofNat _ (by omega) _

/-- Every index word is inside the array. -/
theorem take_inside (i : S64x17x1.Idx) : val_main_call0_v12 (F := Ideal) p i = 1#1 := by
  refine Host.reduce_andi_one _ _ _ _ _ rfl fun k => ?_
  obtain ⟨b, j, rfl⟩ : ∃ (b : Fin 64) (j : Fin 17), k = ix4 b j 0 0 := ⟨k 0, k 1, by
    funext e
    match e with
    | ⟨0, _⟩ => rfl
    | ⟨1, _⟩ => rfl
    | ⟨2, _⟩ => exact Subsingleton.elim (α := Fin 1) _ _
    | ⟨3, _⟩ => exact Subsingleton.elim (α := Fin 1) _ _⟩
  pointwise [val_main_call0_v11, val_main_call0_v10, val_main_call0_v9, val_main_call0_v8, val_main_call0_v7, val_main_call0_v6,
    val_main_call0_c_1, val_main_call0_c_2]
  rw [take_word p n hn]
  exact inside_ofNat _ (by omega)

/-- The gather of an array at the keypoints' cells. -/
theorem taken (x : Vec Ideal S64x17x8400 .f32) (b : Fin 64) (j : Fin 17) :
    (select (val_main_call0_v12 (F := Ideal) p) (Host.gather take x (val_main_call0_v5 (F := Ideal) p))
      (val_main_call0_v14 (F := Ideal)) : Vec Ideal S64x17x1 .f32) (ix3 b j 0) = x (ix3 b j ((n b j).castLE (by decide))) := by
  show Scalar.select (val_main_call0_v12 (F := Ideal) p (ix3 b j 0)) _ _ = _
  rw [take_inside p n hn, take_at x _ b j (n b j) (take_word p n hn b j)]
  rfl

/-- The first coordinate gathered. -/
theorem taken_x (a : Outs) (b : Fin 64) (j : Fin 17) :
    val_main_v49 (F := Ideal) a p (ix2 b j) = posX a b j ((n b j).castLE (by decide)) := by
  pointwise [val_main_v49]
  refine (taken p n hn (val_main_v1 (F := Ideal) a) b j).trans ?_
  pointwise [val_main_v1]
  rfl

/-- The second coordinate gathered. -/
theorem taken_y (a : Outs) (b : Fin 64) (j : Fin 17) :
    val_main_v52 (F := Ideal) a p (ix2 b j) = posY a b j ((n b j).castLE (by decide)) := by
  pointwise [val_main_v52]
  refine (taken p n hn (val_main_v2 (F := Ideal) a) b j).trans ?_
  pointwise [val_main_v2]
  exact congrArg (fun r => a (ix3 b r _)) (Fin.ext (Nat.add_comm _ _))

end Cert.Pose

end
-- ==== Proof.RefSums.lean ====
/-
  The number the reference returns as three plain sums over images, joints and cells of the argument arrays, when the cell of
  every keypoint is known.
-/
module

public import proofs.«01_k».proof.Proof.RefTake

@[expose] public section

set_option maxRecDepth 16384

noncomputable section

namespace Cert.Pose

open Idealize.ShloMosaic
open Cert.ReferenceIdeal Cert.ReferenceIdeal.Read Cert.ReferenceIdeal.Gen

variable (a : Outs) (p : Gts) (v : Marks)

/-- The row of a confidence, counted from the offset. -/
theorem conf_eq (b : Fin 64) (j : Fin 17) (g : Fin 8400) (h : 2 + 3 * j.val < 51) :
    a (ix3 b ⟨2 + 3 * j.val, h⟩ g) = conf a b j g :=
  congrArg (fun r => a (ix3 b r g)) (Fin.ext (Nat.add_comm _ _))

/-- A confidence cut to `[0, 1]`, as the reference spells it. -/
theorem clip_at (b : Fin 64) (j : Fin 17) (g : Fin 8400) :
    val_main_v65 (F := Ideal) a (ix3 b j g) = clip (conf a b j g) := by
  pointwise [val_main_v65, val_main_call4_v4, val_main_call4_v3, val_main_call4_v2, val_main_call4_v1, val_main_call4_v0,
    val_main_cst_13, val_main_cst_14, val_main_v0]
  show min (Ideal.ofBits FTy.f32 0x3F800000#32) (max (Ideal.ofBits FTy.f32 0#32) _) = _
  rw [Ideal.ofBits_zero_f32, one_word]
  exact congrArg (fun z : EReal => clip z) (conf_eq a b j g (by omega))

/-- The logarithm of a confidence. -/
theorem logp_at (b : Fin 64) (j : Fin 17) (g : Fin 8400) :
    val_main_v68 (F := Ideal) a (ix3 b j g) = logp (conf a b j g) := by
  pointwise [val_main_v68, val_main_v67, val_main_cst_15, val_main_v66]
  rw [clip_at]

/-- The logarithm of one minus a confidence. -/
theorem logq_at (b : Fin 64) (j : Fin 17) (g : Fin 8400) :
    val_main_v73 (F := Ideal) a (ix3 b j g) = logq (conf a b j g) := by
  pointwise [val_main_v73, val_main_v72, val_main_cst_17, val_main_v71, val_main_v70, val_main_v69, val_main_cst_16]
  rw [clip_at]

/-- A value chosen where the keypoint is visible. -/
theorem select_seen (b : Fin 64) (j : Fin 17) (x y : EReal) :
    Scalar.select (IntOp.cmpi CmpIPredicate.eq (v (ix2 b j)) 1#32) x y = if seen v b j then x else y := by
  by_cases h : seen v b j
  · rw [if_pos h, h]
    rfl
  · rw [if_neg h]
    have e : IntOp.cmpi CmpIPredicate.eq (v (ix2 b j)) 1#32 = 0#1 := by
      show BitVec.ofBool (v (ix2 b j) == 1#32) = 0#1
      rw [beq_false_of_ne h]
      rfl
    rw [e]
    rfl

/-- The coordinates of a keypoint. -/
theorem gtX_at (b : Fin 64) (j : Fin 17) : val_main_v54 (F := Ideal) p (ix2 b j) = gtX p b j := by
  pointwise [val_main_v54, val_main_v53]
  rfl

/-- The keypoint's vertical coordinate, as the distance of the reference reads it. -/
theorem gtY_at (b : Fin 64) (j : Fin 17) : val_main_v60 (F := Ideal) p (ix2 b j) = gtY p b j := by
  pointwise [val_main_v60, val_main_v59]
  rfl

variable (n : Fin 64 → Fin 17 → Fin 6400) (hn : ∀ b j, cellWord (gtX p b j) (gtY p b j) = BitVec.ofNat 32 (n b j).val)

include hn

/-- The squared difference of the first coordinates where the keypoint is visible. -/
theorem sqX_at (b : Fin 64) (j : Fin 17) :
    val_main_v57 (F := Ideal) a p v (ix2 b j)
      = if seen v b j then sq (posX a b j ((n b j).castLE (by decide)) - gtX p b j) else 0 := by
  pointwise [val_main_v57, val_main_v56, val_main_v55, val_main_call2_v1, val_main_call2_v0, val_main_cst_9, val_main_v18,
    val_main_v17, val_main_c]
  rw [taken_x p n hn, gtX_at, select_seen]
  congr 1
  exact Ideal.ofBits_zero_f32

/-- The squared difference of the second coordinates where the keypoint is visible. -/
theorem sqY_at (b : Fin 64) (j : Fin 17) :
    val_main_v63 (F := Ideal) a p v (ix2 b j)
      = if seen v b j then sq (posY a b j ((n b j).castLE (by decide)) - gtY p b j) else 0 := by
  pointwise [val_main_v63, val_main_v62, val_main_v61, val_main_call3_v1, val_main_call3_v0, val_main_cst_11, val_main_v18,
    val_main_v17, val_main_c]
  rw [taken_y p n hn, gtY_at, select_seen]
  congr 1
  exact Ideal.ofBits_zero_f32

/-- The cross entropy of one confidence. -/
theorem cross_at (b : Fin 64) (j : Fin 17) (g : Fin 8400) :
    val_main_v79 (F := Ideal) a p v (ix3 b j g)
      = -((if (n b j).val = g.val then (if seen v b j then 1 else 0) else 0) * logp (conf a b j g)
          + (1 - (if (n b j).val = g.val then (if seen v b j then 1 else 0) else 0)) * logq (conf a b j g)) := by
  pointwise [val_main_v79, val_main_v78, val_main_v77, val_main_v76, val_main_v75, val_main_cst_18, val_main_v74]
  rw [marks_at p v n hn, logp_at, logq_at]

/-- The number the reference returns. -/
theorem referenceValue_eq (i : S_.Idx) :
    val_main_v85 (F := Ideal) a p v i
      = Ideal.div (∑ b : Fin 64, ∑ j : Fin 17, ∑ g : Fin 8400,
            -((if (n b j).val = g.val then (if seen v b j then 1 else 0) else 0) * logp (conf a b j g)
              + (1 - (if (n b j).val = g.val then (if seen v b j then 1 else 0) else 0)) * logq (conf a b j g))) count
        + Ideal.div (∑ b : Fin 64, ∑ j : Fin 17, if seen v b j then sq (posX a b j ((n b j).castLE (by decide)) - gtX p b j) else 0) images
        + Ideal.div (∑ b : Fin 64, ∑ j : Fin 17, if seen v b j then sq (posY a b j ((n b j).castLE (by decide)) - gtY p b j) else 0) images := by
  rw [val_main_v85_apply, val_main_v84_apply, val_main_v83_apply, val_main_v82_apply, val_main_v81_apply, val_main_v80_apply,
    val_main_v64_apply, val_main_v58_apply, sum_idx2, sum_idx2, sum_idx3]
  simp only [sqX_at a p v n hn, sqY_at a p v n hn, cross_at a p v n hn]
  have z0 : val_main_cst_19 (F := Ideal) (Shape.Idx.first h_S_) = 0 := Ideal.ofBits_zero_f32
  have z1 : val_main_cst_10 (F := Ideal) (Shape.Idx.first h_S_) = 0 := Ideal.ofBits_zero_f32
  have z2 : val_main_cst_12 (F := Ideal) (Shape.Idx.first h_S_) = 0 := Ideal.ofBits_zero_f32
  rw [z0, z1, z2, zero_add, zero_add, zero_add]
  rfl

end Cert.Pose

end
-- ==== Proof.Equation.lean ====
/-
  The equation of the two losses: with drawn confidences every logarithm is a real number, so both means of the cross entropy
  are one real number, and the two means of squared distances are the mean of their sum.
-/
module

public import proofs.«01_k».proof.Proof.Arrays

@[expose] public section

noncomputable section

namespace Cert.Pose

open Idealize.ShloMosaic

/-- A sum of real numbers among the extended reals. -/
theorem coe_total {ι : Type} [Fintype ι] (f : ι → ℝ) : ((∑ i, f i : ℝ) : EReal) = ∑ i, (f i : EReal) := by
  classical
  refine Finset.induction_on (Finset.univ : Finset ι) (by simp) fun i s hi ih => ?_
  rw [Finset.sum_insert hi, Finset.sum_insert hi, EReal.coe_add, ih]

/-! ## The cross entropy -/

/-- The cross entropy over the cells of one joint in real numbers: the sum as if the joint were in no cell, and the correction
    at its cell. -/
theorem cross_row (w : ℝ) (n : Fin 6400) (p q : Fin 8400 → ℝ) :
    ∑ g : Fin 8400, -((if n.val = g.val then w else 0) * p g + (1 - (if n.val = g.val then w else 0)) * q g)
      = w * (q (n.castLE (by decide)) - p (n.castLE (by decide))) - ∑ g : Fin 8400, q g := by
  have e : ∀ g : Fin 8400, -((if n.val = g.val then w else 0) * p g + (1 - (if n.val = g.val then w else 0)) * q g)
      = (if n.castLE (by decide) = g then w * (q g - p g) else 0) - q g := by
    intro g
    by_cases h : n.val = g.val
    · rw [if_pos h, if_pos (Fin.ext h)]; ring
    · rw [if_neg h, if_neg fun k => h (congrArg Fin.val k)]; ring
  rw [Finset.sum_congr rfl fun g _ => e g, Finset.sum_sub_distrib, Finset.sum_ite_eq, if_pos (Finset.mem_univ _)]

variable (a : Outs) (v : Marks) (n : Fin 64 → Fin 17 → Fin 6400)

/-- The cross entropy of all the confidences. -/
theorem cross_eq (hd : ∀ b j g, Drawn (conf a b j g)) :
    (∑ j : Fin 17, ∑ b : Fin 64, (if seen v b j then 1 else 0) *
          (logq (conf a b j ((n b j).castLE (by decide))) - logp (conf a b j ((n b j).castLE (by decide)))))
        - ∑ j : Fin 17, ∑ b : Fin 64, ∑ g : Fin 8400, Ideal.log (1 - conf a b j g)
      = ∑ b : Fin 64, ∑ j : Fin 17, ∑ g : Fin 8400,
          -((if (n b j).val = g.val then (if seen v b j then 1 else 0) else 0) * logp (conf a b j g)
            + (1 - (if (n b j).val = g.val then (if seen v b j then 1 else 0) else 0)) * logq (conf a b j g)) := by
  choose p hp using fun b j g => (hd b j g).logp_real
  choose q hq hq' using fun b j g => (hd b j g).logq_real
  have hw : ∀ b j, (if seen v b j then (1 : EReal) else 0) = ((if seen v b j then 1 else 0 : ℝ) : EReal) := by
    intro b j; split <;> rfl
  have hm : ∀ b j (g : Fin 8400), (if (n b j).val = g.val then ((if seen v b j then 1 else 0 : ℝ) : EReal) else 0)
      = ((if (n b j).val = g.val then (if seen v b j then 1 else 0) else 0 : ℝ) : EReal) := by
    intro b j g; split <;> rfl
  simp only [hw, hm, hp, hq, hq']
  simp only [← EReal.coe_one, ← EReal.coe_sub, ← EReal.coe_mul, ← EReal.coe_add, ← EReal.coe_neg, ← coe_total]
  rw [EReal.coe_eq_coe_iff]
  simp only [cross_row, Finset.sum_sub_distrib]
  exact congrArg₂ (fun x y : ℝ => x - y) Finset.sum_comm Finset.sum_comm

/-! ## The squared distances -/

/-- A square is not negative. -/
theorem sq_nonneg' (x : EReal) : 0 ≤ sq x := by
  rcases le_total 0 x with h | h
  · exact mul_nonneg h h
  · have := EReal.mul_nonneg_iff (a := x) (b := x)
    exact this.2 (Or.inr ⟨h, h⟩)

/-- The squared distances of all the visible keypoints. -/
theorem dist_split (f g : Fin 64 → Fin 17 → EReal) :
    ∑ j : Fin 17, ∑ b : Fin 64, (if seen v b j then 1 else 0) * (sq (f b j) + sq (g b j))
      = (∑ b : Fin 64, ∑ j : Fin 17, if seen v b j then sq (f b j) else 0)
        + ∑ b : Fin 64, ∑ j : Fin 17, if seen v b j then sq (g b j) else 0 := by
  rw [Finset.sum_comm, ← Finset.sum_add_distrib]
  refine Finset.sum_congr rfl fun b _ => ?_
  rw [← Finset.sum_add_distrib]
  refine Finset.sum_congr rfl fun j _ => ?_
  by_cases h : seen v b j
  · rw [if_pos h, if_pos h, if_pos h, one_mul]
  · rw [if_neg h, if_neg h, if_neg h, zero_mul, add_zero]

/-- Dividing a sum of two numbers that are not negative by the number of images. -/
theorem div_images (x y : EReal) (hx : 0 ≤ x) (hy : 0 ≤ y) :
    Ideal.div (x + y) images = Ideal.div x images + Ideal.div y images := by
  have h : images ≠ 0 := by rw [images_eq, ← EReal.coe_zero, Ne, EReal.coe_eq_coe_iff]; norm_num
  simp only [Ideal.div, if_neg h]
  exact EReal.right_distrib_of_nonneg hx hy

/-- The sum of the squares at the visible keypoints is not negative. -/
theorem dist_nonneg (f : Fin 64 → Fin 17 → EReal) :
    0 ≤ ∑ b : Fin 64, ∑ j : Fin 17, if seen v b j then sq (f b j) else 0 :=
  Finset.sum_nonneg fun b _ => Finset.sum_nonneg fun j _ => by
    split
    · exact sq_nonneg' _
    · exact le_refl _

/-- The two losses are one number. -/
theorem loss_eq (p : Gts) (hd : ∀ b j g, Drawn (conf a b j g)) :
    Ideal.div ((∑ j : Fin 17, ∑ b : Fin 64, (if seen v b j then 1 else 0) *
            (logq (conf a b j ((n b j).castLE (by decide))) - logp (conf a b j ((n b j).castLE (by decide)))))
          - ∑ j : Fin 17, ∑ b : Fin 64, ∑ g : Fin 8400, Ideal.log (1 - conf a b j g)) count
        + Ideal.div (∑ j : Fin 17, ∑ b : Fin 64, (if seen v b j then 1 else 0) *
            (sq (posX a b j ((n b j).castLE (by decide)) - gtX p b j)
              + sq (posY a b j ((n b j).castLE (by decide)) - gtY p b j))) images
      = Ideal.div (∑ b : Fin 64, ∑ j : Fin 17, ∑ g : Fin 8400,
            -((if (n b j).val = g.val then (if seen v b j then 1 else 0) else 0) * logp (conf a b j g)
              + (1 - (if (n b j).val = g.val then (if seen v b j then 1 else 0) else 0)) * logq (conf a b j g))) count
        + Ideal.div (∑ b : Fin 64, ∑ j : Fin 17, if seen v b j then sq (posX a b j ((n b j).castLE (by decide)) - gtX p b j) else 0) images
        + Ideal.div (∑ b : Fin 64, ∑ j : Fin 17, if seen v b j then sq (posY a b j ((n b j).castLE (by decide)) - gtY p b j) else 0) images := by
  rw [cross_eq a v n hd,
    dist_split v (fun b j => posX a b j ((n b j).castLE (by decide)) - gtX p b j)
      (fun b j => posY a b j ((n b j).castLE (by decide)) - gtY p b j),
    div_images _ _ (dist_nonneg v _) (dist_nonneg v _), add_assoc]

end Cert.Pose

end
-- ==== Proof.Pre.lean ====
/-
  What the precondition says of the argument arrays: every confidence is drawn and every keypoint lies inside the image.
-/
module

public import proofs.«01_k».proof.Pre_drawn
public import proofs.«01_k».proof.Proof.Arrays

@[expose] public section

noncomputable section

namespace Cert.Pose

open Idealize.ShloMosaic

/-- The shape relations of the precondition's operations. -/
instance preFacts : Cert.Pre_drawn.Facts where
  slicesBy_S64x51x8400_S64x17x8400_0s1_2s3_0s1 := by decide
  bcast_S_S64x17x8400 := by decide
  bcast_S_S64x17x2 := by decide

variable (a : Outs) (t : Vec Ideal ⟨3, ![64, 17, 3]⟩ .f32) (p : Gts) (v : Marks)

/-- Two decisions whose conjunction is one both hold. -/
theorem both_hold {x y : Prop} [Decidable x] [Decidable y]
    (h : IntOp.andi (BitVec.ofBool (decide x)) (BitVec.ofBool (decide y)) = 1#1) : x ∧ y := by
  by_cases hx : x
  · by_cases hy : y
    · exact ⟨hx, hy⟩
    · rw [decide_eq_true hx, decide_eq_false hy] at h
      exact absurd h (by decide)
  · by_cases hy : y
    · rw [decide_eq_false hx, decide_eq_true hy] at h
      exact absurd h (by decide)
    · rw [decide_eq_false hx, decide_eq_false hy] at h
      exact absurd h (by decide)

/-- The first half of the precondition. -/
theorem drawn_of (h : (Cert.Pre_drawn.fn (F := Ideal) a t p v).1 = fun _ => 1#1) (b : Fin 64) (j : Fin 17) (g : Fin 8400) :
    Drawn (conf a b j g) := by
  have e := congrFun h (ix3 b j g)
  unfold Cert.Pre_drawn.fn at e
  pointwise at e
  have r : a (ix3 b ⟨2 + 3 * j.val, by omega⟩ g) = conf a b j g := congrArg (fun r => a (ix3 b r g)) (Fin.ext (Nat.add_comm _ _))
  have q := both_hold e
  exact ⟨r ▸ q.1, r ▸ most_eq ▸ q.2⟩

/-- The second half of the precondition. -/
theorem inside_of (h : (Cert.Pre_drawn.fn (F := Ideal) a t p v).2 = fun _ => 1#1) (b : Fin 64) (j : Fin 17) (k : Fin 2) :
    0 ≤ (p (ix3 b j k) : EReal) ∧ (p (ix3 b j k) : EReal) < ((640 : ℝ) : EReal) := by
  have e := congrFun h (ix3 b j k)
  unfold Cert.Pre_drawn.fn at e
  pointwise at e
  have q := both_hold e
  exact ⟨q.1, pixels_eq ▸ q.2⟩

end Cert.Pose

end
-- ==== Proof.lean ====
/-
  The certificate: the frames of the three programs, and the equality of the two losses on drawn inputs.
-/
module

public import proofs.«01_k».proof.Defs
public import proofs.«01_k».proof.Proof.Gen.Kernel.Frame
public import proofs.«01_k».proof.Proof.Gen.ReferenceIdeal.Run
public import proofs.«01_k».proof.Proof.Sums
public import proofs.«01_k».proof.Proof.RefSums
public import proofs.«01_k».proof.Proof.Equation
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem Cert.Pose

/-- The cells of the keypoints of a device whose inputs are drawn. -/
theorem cells (m : (ℓ : Loc Cert.KernelIdeal.nD Cert.KernelIdeal.τ Cert.KernelIdeal.sig) → Buf (Elt Ideal) ℓ)
    (h : Cert.Pre_KernelIdeal_drawn m) (c : Dev Cert.KernelIdeal.nD) :
    ∃ n : Fin 64 → Fin 17 → Fin 6400, ∀ b j, cellWord (gtX (gts m c) b j) (gtY (gts m c) b j) = BitVec.ofNat 32 (n b j).val := by
  have hi := inside_of _ _ _ _ (h c).2
  choose n hn using fun b j => exists_cell (gtX (gts m c) b j) (gtY (gts m c) b j) (hi b j 0).1 (hi b j 0).2 (hi b j 1).1 (hi b j 1).2
  exact ⟨n, hn⟩

/-- The kernel's number is the reference's value at the kernel's arguments. -/
theorem values (m : (ℓ : Loc Cert.KernelIdeal.nD Cert.KernelIdeal.τ Cert.KernelIdeal.sig) → Buf (Elt Ideal) ℓ)
    (h : Cert.Pre_KernelIdeal_drawn m) (c : Dev Cert.KernelIdeal.nD) (i : Cert.ReferenceIdeal.S_.Idx) :
    Cert.ReferenceIdeal.Read.val_main_v85 (F := Ideal) (outs m c) (gts m c) (marks m c) i = kernelValue m c := by
  obtain ⟨n, hn⟩ := cells m h c
  rw [kernelValue_eq m c n hn, referenceValue_eq (outs m c) (gts m c) (marks m c) n hn i]
  exact (loss_eq (outs m c) (marks m c) n (gts m c) (drawn_of _ _ _ _ (h c).1)).symm

/-- The reference ends with its arguments unchanged and every counter at zero. -/
theorem reference_frame : Cert.quiescent_ReferenceIdeal := by
  intro m g _
  exact θ_run_mono (Cert.ReferenceIdeal.Value.run (F := Ideal) m g) fun r h => ⟨fun c => (h c).2, sem_eq_zero_of_no_sems rfl r.2⟩

/-- The five claims of the certificate. -/
theorem claim : Cert.Claim := ⟨Cert.Kernel.Gen.facts, Cert.KernelIdeal.Gen.facts, Cert.ReferenceIdeal.Gen.facts, preFacts,
  fun m g _ => Cert.Kernel.Gen.frame m g,
  fun m g _ => Cert.KernelIdeal.Gen.frame m g,
  fun m g _ => Cert.KernelIdeal.Gen.frame m g,
  reference_frame,
  fun m g _ => reference_frame m g trivial,
  trivial,
  by
    pair_intro
    run_from (kernel_run m g)
    run_from (Cert.ReferenceIdeal.Value.run (F := Ideal) m' g')
    obtain ⟨h0, _, h2, h3⟩ := hagree c
    rw [Cert.ReferenceIdeal.Read.val_main_v85_eq, h0, h2, h3]
    funext i
    exact values m hpre c i⟩

end Cert.Proof

end
